-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2, 4] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.blockN ⟨3, ![1, 1024, 8192]⟩ ⟨3, ![1, 2048, 8192]⟩ (Layout.meshBlock [2, 2, 4] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S2048x4096 : Shape := ⟨2, ![2048, 4096]⟩
abbrev S_ : Shape := ⟨0, ![]⟩
abbrev S1 : Shape := ⟨1, ![1]⟩
abbrev S1024x8192 : Shape := ⟨2, ![1024, 8192]⟩
abbrev S4096x512 : Shape := ⟨2, ![4096, 512]⟩
abbrev S1024x512 : Shape := ⟨2, ![1024, 512]⟩
abbrev S1024x4096 : Shape := ⟨2, ![1024, 4096]⟩
abbrev S2x1024x512 : Shape := ⟨3, ![2, 1024, 512]⟩
abbrev S3x1024x512 : Shape := ⟨3, ![3, 1024, 512]⟩
abbrev S16x1024x512 : Shape := ⟨3, ![16, 1024, 512]⟩
abbrev S2 : Shape := ⟨1, ![2]⟩
abbrev S16 : Shape := ⟨1, ![16]⟩
abbrev S1x1024x512 : Shape := ⟨3, ![1, 1024, 512]⟩
abbrev S1x1024x8192 : Shape := ⟨3, ![1, 1024, 8192]⟩

abbrev nBuf : Space → Nat
  | .hbm => 12
  | .vmem => 9
  | .smem => 1
  | _ => 0

abbrev bufTy : (tb : Table) → Fin (tcTables nBuf tb) → BufTy
  | .hbm, ⟨0, _⟩ => ⟨S1x2048x32x128, .f32⟩
  | .hbm, ⟨1, _⟩ => ⟨S4096x8192, .f32⟩
  | .hbm, ⟨2, _⟩ => ⟨S2048x4096, .f32⟩
  | .hbm, ⟨3, _⟩ => ⟨S2048x4096, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024x8192, .f32⟩
  | .hbm, ⟨11, _⟩ => ⟨S1x1024x8192, .f32⟩
  | .local _ .vmem, ⟨0, _⟩ => ⟨S4096x512, .f32⟩
  | .local _ .vmem, ⟨1, _⟩ => ⟨S4096x512, .f32⟩
  | .local _ .vmem, ⟨2, _⟩ => ⟨S1024x512, .f32⟩
  | .local _ .vmem, ⟨3, _⟩ => ⟨S1024x512, .f32⟩
  | .local _ .vmem, ⟨4, _⟩ => ⟨S1024x4096, .bf16⟩
  | .local _ .vmem, ⟨5, _⟩ => ⟨S1024x4096, .bf16⟩
  | .local _ .vmem, ⟨6, _⟩ => ⟨S2x1024x512, .bf16⟩
  | .local _ .vmem, ⟨7, _⟩ => ⟨S3x1024x512, .bf16⟩
  | .local _ .vmem, ⟨8, _⟩ => ⟨S16x1024x512, .bf16⟩
  | .local _ .smem, ⟨0, _⟩ => ⟨S1, .i32⟩
  | _, _ => ⟨S1x2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v8 : Ref sig .tc := ⟨.hbm, 10, rfl⟩
abbrev main_v9 : Ref sig .tc := ⟨.hbm, 11, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 16
abbrev τ : Topo := Topo.v7x

variable {F : FTy → Type} [FloatOps F]

abbrev grid0 : Pipeline.Grid := ⟨1, ![18], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k0_dev1 (v0 : BitVec 32) (d2 : Dev nD) : Nat :=
  let c0_i32_36 : BitVec 32 := 0#32
  let c1_i32 : BitVec 32 := 1#32
  let v1 : BitVec 32 := Scalar.subi c1_i32 v0
  let c8_i32_35 : BitVec 32 := 8#32
  let v76 : BitVec 32 := Scalar.muli v1 c8_i32_35
  let v77 : BitVec 32 := Scalar.addi c0_i32_36 v76
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_37 : BitVec 32 := 4#32
  let v78 : BitVec 32 := Scalar.muli v4 c4_i32_37
  let v79 : BitVec 32 := Scalar.addi v77 v78
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_38 : BitVec 32 := 1#32
  let v80 : BitVec 32 := Scalar.muli v7 c1_i32_38
  let v81 : BitVec 32 := Scalar.addi v79 v80
  v81.toNat

def k0_off1 (v0 : BitVec 32) : Fin 2 → Nat :=
  let c1024_i32 : BitVec 32 := 1024#32
  let v8 : BitVec 32 := Scalar.muli v0 c1024_i32
  let c0_i32_40 : BitVec 32 := 0#32
  ![v8.toNat, 0]
def k0_off2 (v0 : BitVec 32) : Fin 2 → Nat :=
  let c1_i32_2 : BitVec 32 := 1#32
  let v9 : BitVec 32 := Scalar.subi c1_i32_2 v0
  let c1024_i32_3 : BitVec 32 := 1024#32
  let v10 : BitVec 32 := Scalar.muli v9 c1024_i32_3
  let c0_i32_42 : BitVec 32 := 0#32
  ![v10.toNat, 0]
def k0_cond2 (i : grid0.Coords) : BitVec 1 :=
  let arg0 : BitVec 32 := BitVec.ofNat 32 (i 0).val
  let c0_i32_12 : BitVec 32 := 0#32
  let v21 : BitVec 1 := Scalar.cmpi .eq arg0 c0_i32_12
  let v22 : BitVec 32 := Scalar.extui v21
  let c0_i32_13 : BitVec 32 := 0#32
  let v23 : BitVec 1 := Scalar.cmpi .ne v22 c0_i32_13
  v23

def k0_dev2 (v0 : BitVec 32) (d2 : Dev nD) : Nat :=
  let c0_i32_45 : BitVec 32 := 0#32
  let c1_i32 : BitVec 32 := 1#32
  let v1 : BitVec 32 := Scalar.subi c1_i32 v0
  let c8_i32_44 : BitVec 32 := 8#32
  let v83 : BitVec 32 := Scalar.muli v1 c8_i32_44
  let v84 : BitVec 32 := Scalar.addi c0_i32_45 v83
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_46 : BitVec 32 := 4#32
  let v85 : BitVec 32 := Scalar.muli v4 c4_i32_46
  let v86 : BitVec 32 := Scalar.addi v84 v85
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_47 : BitVec 32 := 1#32
  let v87 : BitVec 32 := Scalar.muli v7 c1_i32_47
  let v88 : BitVec 32 := Scalar.addi v86 v87
  v88.toNat
def k0_cond3 (i : grid0.Coords) : BitVec 1 :=
  let arg0 : BitVec 32 := BitVec.ofNat 32 (i 0).val
  let c1_i32_14 : BitVec 32 := 1#32
  let v24 : BitVec 1 := Scalar.cmpi .eq arg0 c1_i32_14
  let v25 : BitVec 32 := Scalar.extui v24
  let c0_i32_15 : BitVec 32 := 0#32
  let v26 : BitVec 1 := Scalar.cmpi .ne v25 c0_i32_15
  v26

def k0_dev3 (v0 : BitVec 32) (d2 : Dev nD) : Nat :=
  let c0_i32_44 : BitVec 32 := 0#32
  let c1_i32 : BitVec 32 := 1#32
  let v1 : BitVec 32 := Scalar.subi c1_i32 v0
  let c8_i32_43 : BitVec 32 := 8#32
  let v83 : BitVec 32 := Scalar.muli v1 c8_i32_43
  let v84 : BitVec 32 := Scalar.addi c0_i32_44 v83
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_45 : BitVec 32 := 4#32
  let v85 : BitVec 32 := Scalar.muli v4 c4_i32_45
  let v86 : BitVec 32 := Scalar.addi v84 v85
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_46 : BitVec 32 := 1#32
  let v87 : BitVec 32 := Scalar.muli v7 c1_i32_46
  let v88 : BitVec 32 := Scalar.addi v86 v87
  v88.toNat
def k0_cond4 (i : grid0.Coords) : BitVec 1 :=
  let arg0 : BitVec 32 := BitVec.ofNat 32 (i 0).val
  let c2_i32_16 : BitVec 32 := 2#32
  let v27 : BitVec 1 := Scalar.cmpi .eq arg0 c2_i32_16
  let v28 : BitVec 32 := Scalar.extui v27
  let c0_i32_17 : BitVec 32 := 0#32
  let v29 : BitVec 1 := Scalar.cmpi .ne v28 c0_i32_17
  v29

def k0_dev4 (v0 : BitVec 32) (d2 : Dev nD) : Nat :=
  let c0_i32_53 : BitVec 32 := 0#32
  let c1_i32 : BitVec 32 := 1#32
  let v1 : BitVec 32 := Scalar.subi c1_i32 v0
  let c8_i32_52 : BitVec 32 := 8#32
  let v89 : BitVec 32 := Scalar.muli v1 c8_i32_52
  let v90 : BitVec 32 := Scalar.addi c0_i32_53 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_54 : BitVec 32 := 4#32
  let v91 : BitVec 32 := Scalar.muli v4 c4_i32_54
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_55 : BitVec 32 := 1#32
  let v93 : BitVec 32 := Scalar.muli v7 c1_i32_55
  let v94 : BitVec 32 := Scalar.addi v92 v93
  v94.toNat
def k0_cond5 (i : grid0.Coords) : BitVec 1 :=
  let arg0 : BitVec 32 := BitVec.ofNat 32 (i 0).val
  let c3_i32 : BitVec 32 := 3#32
  let v30 : BitVec 1 := Scalar.cmpi .eq arg0 c3_i32
  let v31 : BitVec 32 := Scalar.extui v30
  let c0_i32_18 : BitVec 32 := 0#32
  let v32 : BitVec 1 := Scalar.cmpi .ne v31 c0_i32_18
  v32

def k0_dev5 (v0 : BitVec 32) (d2 : Dev nD) : Nat :=
  let c0_i32_53 : BitVec 32 := 0#32
  let c1_i32 : BitVec 32 := 1#32
  let v1 : BitVec 32 := Scalar.subi c1_i32 v0
  let c8_i32_52 : BitVec 32 := 8#32
  let v89 : BitVec 32 := Scalar.muli v1 c8_i32_52
  let v90 : BitVec 32 := Scalar.addi c0_i32_53 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_54 : BitVec 32 := 4#32
  let v91 : BitVec 32 := Scalar.muli v4 c4_i32_54
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_55 : BitVec 32 := 1#32
  let v93 : BitVec 32 := Scalar.muli v7 c1_i32_55
  let v94 : BitVec 32 := Scalar.addi v92 v93
  v94.toNat
def k0_cond6 (i : grid0.Coords) : BitVec 1 :=
  let arg0 : BitVec 32 := BitVec.ofNat 32 (i 0).val
  let c4_i32_19 : BitVec 32 := 4#32
  let v33 : BitVec 1 := Scalar.cmpi .eq arg0 c4_i32_19
  let v34 : BitVec 32 := Scalar.extui v33
  let c0_i32_20 : BitVec 32 := 0#32
  let v35 : BitVec 1 := Scalar.cmpi .ne v34 c0_i32_20
  v35

def k0_dev6 (v0 : BitVec 32) (d2 : Dev nD) : Nat :=
  let c0_i32_53 : BitVec 32 := 0#32
  let c1_i32 : BitVec 32 := 1#32
  let v1 : BitVec 32 := Scalar.subi c1_i32 v0
  let c8_i32_52 : BitVec 32 := 8#32
  let v89 : BitVec 32 := Scalar.muli v1 c8_i32_52
  let v90 : BitVec 32 := Scalar.addi c0_i32_53 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_54 : BitVec 32 := 4#32
  let v91 : BitVec 32 := Scalar.muli v4 c4_i32_54
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_55 : BitVec 32 := 1#32
  let v93 : BitVec 32 := Scalar.muli v7 c1_i32_55
  let v94 : BitVec 32 := Scalar.addi v92 v93
  v94.toNat
def k0_cond7 (i : grid0.Coords) : BitVec 1 :=
  let arg0 : BitVec 32 := BitVec.ofNat 32 (i 0).val
  let c5_i32 : BitVec 32 := 5#32
  let v36 : BitVec 1 := Scalar.cmpi .eq arg0 c5_i32
  let v37 : BitVec 32 := Scalar.extui v36
  let c0_i32_21 : BitVec 32 := 0#32
  let v38 : BitVec 1 := Scalar.cmpi .ne v37 c0_i32_21
  v38

def k0_dev7 (v0 : BitVec 32) (d2 : Dev nD) : Nat :=
  let c0_i32_52 : BitVec 32 := 0#32
  let c1_i32 : BitVec 32 := 1#32
  let v1 : BitVec 32 := Scalar.subi c1_i32 v0
  let c8_i32_51 : BitVec 32 := 8#32
  let v89 : BitVec 32 := Scalar.muli v1 c8_i32_51
  let v90 : BitVec 32 := Scalar.addi c0_i32_52 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_53 : BitVec 32 := 4#32
  let v91 : BitVec 32 := Scalar.muli v4 c4_i32_53
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_54 : BitVec 32 := 1#32
  let v93 : BitVec 32 := Scalar.muli v7 c1_i32_54
  let v94 : BitVec 32 := Scalar.addi v92 v93
  v94.toNat
def k0_cond8 (i : grid0.Coords) : BitVec 1 :=
  let arg0 : BitVec 32 := BitVec.ofNat 32 (i 0).val
  let c6_i32 : BitVec 32 := 6#32
  let v39 : BitVec 1 := Scalar.cmpi .eq arg0 c6_i32
  let v40 : BitVec 32 := Scalar.extui v39
  let c0_i32_22 : BitVec 32 := 0#32
  let v41 : BitVec 1 := Scalar.cmpi .ne v40 c0_i32_22
  v41

def k0_dev8 (v0 : BitVec 32) (d2 : Dev nD) : Nat :=
  let c0_i32_54 : BitVec 32 := 0#32
  let c1_i32 : BitVec 32 := 1#32
  let v1 : BitVec 32 := Scalar.subi c1_i32 v0
  let c8_i32_53 : BitVec 32 := 8#32
  let v89 : BitVec 32 := Scalar.muli v1 c8_i32_53
  let v90 : BitVec 32 := Scalar.addi c0_i32_54 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_55 : BitVec 32 := 4#32
  let v91 : BitVec 32 := Scalar.muli v4 c4_i32_55
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_56 : BitVec 32 := 1#32
  let v93 : BitVec 32 := Scalar.muli v7 c1_i32_56
  let v94 : BitVec 32 := Scalar.addi v92 v93
  v94.toNat
def k0_cond9 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_23 : BitVec 32 := 0#32
  let v44 : BitVec 1 := Scalar.cmpi .ne v43 c0_i32_23
  v44

def k0_dev9 (v0 : BitVec 32) (d2 : Dev nD) : Nat :=
  let c0_i32_53 : BitVec 32 := 0#32
  let c1_i32 : BitVec 32 := 1#32
  let v1 : BitVec 32 := Scalar.subi c1_i32 v0
  let c8_i32_52 : BitVec 32 := 8#32
  let v89 : BitVec 32 := Scalar.muli v1 c8_i32_52
  let v90 : BitVec 32 := Scalar.addi c0_i32_53 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_54 : BitVec 32 := 4#32
  let v91 : BitVec 32 := Scalar.muli v4 c4_i32_54
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_55 : BitVec 32 := 1#32
  let v93 : BitVec 32 := Scalar.muli v7 c1_i32_55
  let v94 : BitVec 32 := Scalar.addi v92 v93
  v94.toNat
def k0_cond10 (i : grid0.Coords) : BitVec 1 :=
  let arg0 : BitVec 32 := BitVec.ofNat 32 (i 0).val
  let c8_i32 : BitVec 32 := 8#32
  let v45 : BitVec 1 := Scalar.cmpi .eq arg0 c8_i32
  let v46 : BitVec 32 := Scalar.extui v45
  let c0_i32_24 : BitVec 32 := 0#32
  let v47 : BitVec 1 := Scalar.cmpi .ne v46 c0_i32_24
  v47

def k0_dev10 (v0 : BitVec 32) (d2 : Dev nD) : Nat :=
  let c0_i32_53 : BitVec 32 := 0#32
  let c1_i32 : BitVec 32 := 1#32
  let v1 : BitVec 32 := Scalar.subi c1_i32 v0
  let c8_i32_52 : BitVec 32 := 8#32
  let v89 : BitVec 32 := Scalar.muli v1 c8_i32_52
  let v90 : BitVec 32 := Scalar.addi c0_i32_53 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_54 : BitVec 32 := 4#32
  let v91 : BitVec 32 := Scalar.muli v4 c4_i32_54
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_55 : BitVec 32 := 1#32
  let v93 : BitVec 32 := Scalar.muli v7 c1_i32_55
  let v94 : BitVec 32 := Scalar.addi v92 v93
  v94.toNat
def k0_cond11 (i : grid0.Coords) : BitVec 1 :=
  let arg0 : BitVec 32 := BitVec.ofNat 32 (i 0).val
  let c9_i32 : BitVec 32 := 9#32
  let v48 : BitVec 1 := Scalar.cmpi .eq arg0 c9_i32
  let v49 : BitVec 32 := Scalar.extui v48
  let c0_i32_25 : BitVec 32 := 0#32
  let v50 : BitVec 1 := Scalar.cmpi .ne v49 c0_i32_25
  v50

def k0_dev11 (v0 : BitVec 32) (d2 : Dev nD) : Nat :=
  let c0_i32_53 : BitVec 32 := 0#32
  let c1_i32 : BitVec 32 := 1#32
  let v1 : BitVec 32 := Scalar.subi c1_i32 v0
  let c8_i32_52 : BitVec 32 := 8#32
  let v89 : BitVec 32 := Scalar.muli v1 c8_i32_52
  let v90 : BitVec 32 := Scalar.addi c0_i32_53 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_54 : BitVec 32 := 4#32
  let v91 : BitVec 32 := Scalar.muli v4 c4_i32_54
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_55 : BitVec 32 := 1#32
  let v93 : BitVec 32 := Scalar.muli v7 c1_i32_55
  let v94 : BitVec 32 := Scalar.addi v92 v93
  v94.toNat
def k0_cond12 (i : grid0.Coords) : BitVec 1 :=
  let arg0 : BitVec 32 := BitVec.ofNat 32 (i 0).val
  let c10_i32 : BitVec 32 := 10#32
  let v51 : BitVec 1 := Scalar.cmpi .eq arg0 c10_i32
  let v52 : BitVec 32 := Scalar.extui v51
  let c0_i32_26 : BitVec 32 := 0#32
  let v53 : BitVec 1 := Scalar.cmpi .ne v52 c0_i32_26
  v53

def k0_dev12 (v0 : BitVec 32) (d2 : Dev nD) : Nat :=
  let c0_i32_53 : BitVec 32 := 0#32
  let c1_i32 : BitVec 32 := 1#32
  let v1 : BitVec 32 := Scalar.subi c1_i32 v0
  let c8_i32_52 : BitVec 32 := 8#32
  let v89 : BitVec 32 := Scalar.muli v1 c8_i32_52
  let v90 : BitVec 32 := Scalar.addi c0_i32_53 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_54 : BitVec 32 := 4#32
  let v91 : BitVec 32 := Scalar.muli v4 c4_i32_54
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_55 : BitVec 32 := 1#32
  let v93 : BitVec 32 := Scalar.muli v7 c1_i32_55
  let v94 : BitVec 32 := Scalar.addi v92 v93
  v94.toNat
def k0_cond13 (i : grid0.Coords) : BitVec 1 :=
  let arg0 : BitVec 32 := BitVec.ofNat 32 (i 0).val
  let c11_i32 : BitVec 32 := 11#32
  let v54 : BitVec 1 := Scalar.cmpi .eq arg0 c11_i32
  let v55 : BitVec 32 := Scalar.extui v54
  let c0_i32_27 : BitVec 32 := 0#32
  let v56 : BitVec 1 := Scalar.cmpi .ne v55 c0_i32_27
  v56

def k0_dev13 (v0 : BitVec 32) (d2 : Dev nD) : Nat :=
  let c0_i32_52 : BitVec 32 := 0#32
  let c1_i32 : BitVec 32 := 1#32
  let v1 : BitVec 32 := Scalar.subi c1_i32 v0
  let c8_i32_51 : BitVec 32 := 8#32
  let v89 : BitVec 32 := Scalar.muli v1 c8_i32_51
  let v90 : BitVec 32 := Scalar.addi c0_i32_52 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_53 : BitVec 32 := 4#32
  let v91 : BitVec 32 := Scalar.muli v4 c4_i32_53
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_54 : BitVec 32 := 1#32
  let v93 : BitVec 32 := Scalar.muli v7 c1_i32_54
  let v94 : BitVec 32 := Scalar.addi v92 v93
  v94.toNat
def k0_cond14 (i : grid0.Coords) : BitVec 1 :=
  let arg0 : BitVec 32 := BitVec.ofNat 32 (i 0).val
  let c12_i32 : BitVec 32 := 12#32
  let v57 : BitVec 1 := Scalar.cmpi .eq arg0 c12_i32
  let v58 : BitVec 32 := Scalar.extui v57
  let c0_i32_28 : BitVec 32 := 0#32
  let v59 : BitVec 1 := Scalar.cmpi .ne v58 c0_i32_28
  v59

def k0_dev14 (v0 : BitVec 32) (d2 : Dev nD) : Nat :=
  let c0_i32_54 : BitVec 32 := 0#32
  let c1_i32 : BitVec 32 := 1#32
  let v1 : BitVec 32 := Scalar.subi c1_i32 v0
  let c8_i32_53 : BitVec 32 := 8#32
  let v89 : BitVec 32 := Scalar.muli v1 c8_i32_53
  let v90 : BitVec 32 := Scalar.addi c0_i32_54 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_55 : BitVec 32 := 4#32
  let v91 : BitVec 32 := Scalar.muli v4 c4_i32_55
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_56 : BitVec 32 := 1#32
  let v93 : BitVec 32 := Scalar.muli v7 c1_i32_56
  let v94 : BitVec 32 := Scalar.addi v92 v93
  v94.toNat
def k0_cond15 (i : grid0.Coords) : BitVec 1 :=
  let arg0 : BitVec 32 := BitVec.ofNat 32 (i 0).val
  let c13_i32 : BitVec 32 := 13#32
  let v60 : BitVec 1 := Scalar.cmpi .eq arg0 c13_i32
  let v61 : BitVec 32 := Scalar.extui v60
  let c0_i32_29 : BitVec 32 := 0#32
  let v62 : BitVec 1 := Scalar.cmpi .ne v61 c0_i32_29
  v62

def k0_dev15 (v0 : BitVec 32) (d2 : Dev nD) : Nat :=
  let c0_i32_53 : BitVec 32 := 0#32
  let c1_i32 : BitVec 32 := 1#32
  let v1 : BitVec 32 := Scalar.subi c1_i32 v0
  let c8_i32_52 : BitVec 32 := 8#32
  let v89 : BitVec 32 := Scalar.muli v1 c8_i32_52
  let v90 : BitVec 32 := Scalar.addi c0_i32_53 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_54 : BitVec 32 := 4#32
  let v91 : BitVec 32 := Scalar.muli v4 c4_i32_54
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_55 : BitVec 32 := 1#32
  let v93 : BitVec 32 := Scalar.muli v7 c1_i32_55
  let v94 : BitVec 32 := Scalar.addi v92 v93
  v94.toNat
def k0_cond16 (i : grid0.Coords) : BitVec 1 :=
  let arg0 : BitVec 32 := BitVec.ofNat 32 (i 0).val
  let c14_i32 : BitVec 32 := 14#32
  let v63 : BitVec 1 := Scalar.cmpi .eq arg0 c14_i32
  let v64 : BitVec 32 := Scalar.extui v63
  let c0_i32_30 : BitVec 32 := 0#32
  let v65 : BitVec 1 := Scalar.cmpi .ne v64 c0_i32_30
  v65

def k0_dev16 (v0 : BitVec 32) (d2 : Dev nD) : Nat :=
  let c0_i32_53 : BitVec 32 := 0#32
  let c1_i32 : BitVec 32 := 1#32
  let v1 : BitVec 32 := Scalar.subi c1_i32 v0
  let c8_i32_52 : BitVec 32 := 8#32
  let v89 : BitVec 32 := Scalar.muli v1 c8_i32_52
  let v90 : BitVec 32 := Scalar.addi c0_i32_53 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_54 : BitVec 32 := 4#32
  let v91 : BitVec 32 := Scalar.muli v4 c4_i32_54
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_55 : BitVec 32 := 1#32
  let v93 : BitVec 32 := Scalar.muli v7 c1_i32_55
  let v94 : BitVec 32 := Scalar.addi v92 v93
  v94.toNat
def k0_cond17 (i : grid0.Coords) : BitVec 1 :=
  let arg0 : BitVec 32 := BitVec.ofNat 32 (i 0).val
  let c15_i32 : BitVec 32 := 15#32
  let v66 : BitVec 1 := Scalar.cmpi .eq arg0 c15_i32
  let v67 : BitVec 32 := Scalar.extui v66
  let c0_i32_31 : BitVec 32 := 0#32
  let v68 : BitVec 1 := Scalar.cmpi .ne v67 c0_i32_31
  v68

def k0_dev17 (v0 : BitVec 32) (d2 : Dev nD) : Nat :=
  let c0_i32_53 : BitVec 32 := 0#32
  let c1_i32 : BitVec 32 := 1#32
  let v1 : BitVec 32 := Scalar.subi c1_i32 v0
  let c8_i32_52 : BitVec 32 := 8#32
  let v89 : BitVec 32 := Scalar.muli v1 c8_i32_52
  let v90 : BitVec 32 := Scalar.addi c0_i32_53 v89
  let v2 : BitVec 32 := Dev.word d2
  let c4_i32 : BitVec 32 := 4#32
  let v3 : BitVec 32 := Scalar.divsi v2 c4_i32
  let c2_i32 : BitVec 32 := 2#32
  let v4 : BitVec 32 := Scalar.remsi v3 c2_i32
  let c4_i32_54 : BitVec 32 := 4#32
  let v91 : BitVec 32 := Scalar.muli v4 c4_i32_54
  let v92 : BitVec 32 := Scalar.addi v90 v91
  let v5 : BitVec 32 := Dev.word d2
  let c1_i32_1 : BitVec 32 := 1#32
  let v6 : BitVec 32 := Scalar.divsi v5 c1_i32_1
  let c4_i32_0 : BitVec 32 := 4#32
  let v7 : BitVec 32 := Scalar.remsi v6 c4_i32_0
  let c1_i32_55 : BitVec 32 := 1#32
  let v93 : BitVec 32 := Scalar.muli v7 c1_i32_55
  let v94 : BitVec 32 := Scalar.addi v92 v93
  v94.toNat

def k0_chk1 (i : grid0.Coords) (v0 : BitVec 32) : Prop :=
  (∀ d2 : Dev nD, ∀ (k0_h1 : k0_cond1 i = 1#1), (k0_dev1 v0 d2) < nD) ∧
  (∀ (k0_h1 : k0_cond1 i = 1#1), ∀ a, (k0_off1 v0) a + S1024x4096.size a ≤ S2048x4096.size a) ∧
  (∀ (k0_h1 : k0_cond1 i = 1#1), ∀ (hinb : ∀ a, (k0_off1 v0) a + S1024x4096.size a ≤ S2048x4096.size a), (Rect.unit (s := S2048x4096) (k0_off1 v0) S1024x4096.size hinb).WholeWords (EltTy.packing .bf16)) ∧
  (∀ (k0_h1 : k0_cond1 i = 1#1), ∀ a, (k0_off2 v0) a + S1024x4096.size a ≤ S2048x4096.size a) ∧
  (∀ (k0_h1 : k0_cond1 i = 1#1), ∀ (hinb : ∀ a, (k0_off2 v0) a + S1024x4096.size a ≤ S2048x4096.size a), (Rect.unit (s := S2048x4096) (k0_off2 v0) S1024x4096.size hinb).WholeWords (EltTy.packing .bf16)) ∧
  (∀ d2 : Dev nD, ∀ (k0_h2 : k0_cond2 i = 1#1), (k0_dev2 v0 d2) < nD) ∧
  (∀ d2 : Dev nD, ∀ (k0_h3 : k0_cond3 i = 1#1), (k0_dev3 v0 d2) < nD) ∧
  (∀ d2 : Dev nD, ∀ (k0_h4 : k0_cond4 i = 1#1), (k0_dev4 v0 d2) < nD) ∧
  (∀ d2 : Dev nD, ∀ (k0_h5 : k0_cond5 i = 1#1), (k0_dev5 v0 d2) < nD) ∧
  (∀ d2 : Dev nD, ∀ (k0_h6 : k0_cond6 i = 1#1), (k0_dev6 v0 d2) < nD) ∧
  (∀ d2 : Dev nD, ∀ (k0_h7 : k0_cond7 i = 1#1), (k0_dev7 v0 d2) < nD) ∧
  (∀ d2 : Dev nD, ∀ (k0_h8 : k0_cond8 i = 1#1), (k0_dev8 v0 d2) < nD) ∧
  (∀ d2 : Dev nD, ∀ (k0_h9 : k0_cond9 i = 1#1), (k0_dev9 v0 d2) < nD) ∧
  (∀ d2 : Dev nD, ∀ (k0_h10 : k0_cond10 i = 1#1), (k0_dev10 v0 d2) < nD) ∧
  (∀ d2 : Dev nD, ∀ (k0_h11 : k0_cond11 i = 1#1), (k0_dev11 v0 d2) < nD) ∧
  (∀ d2 : Dev nD, ∀ (k0_h12 : k0_cond12 i = 1#1), (k0_dev12 v0 d2) < nD) ∧
  (∀ d2 : Dev nD, ∀ (k0_h13 : k0_cond13 i = 1#1), (k0_dev13 v0 d2) < nD) ∧
  (∀ d2 : Dev nD, ∀ (k0_h14 : k0_cond14 i = 1#1), (k0_dev14 v0 d2) < nD) ∧
  (∀ d2 : Dev nD, ∀ (k0_h15 : k0_cond15 i = 1#1), (k0_dev15 v0 d2) < nD) ∧
  (∀ d2 : Dev nD, ∀ (k0_h16 : k0_cond16 i = 1#1), (k0_dev16 v0 d2) < nD) ∧
  (∀ d2 : Dev nD, ∀ (k0_h17 : k0_cond17 i = 1#1), (k0_dev17 v0 d2) < nD)
theorem k0_dev1_lt : ∀ (i : grid0.Coords) (v0 : BitVec 32) (k0_hw1 : k0_chk1 i v0) (d2 : Dev nD), ∀ (k0_h1 : k0_cond1 i = 1#1), (k0_dev1 v0 d2) < nD := fun i v0 k0_hw1 d2 k0_h1 => k0_hw1.1 d2 k0_h1
theorem k0_off1_inb : ∀ (i : grid0.Coords) (v0 : BitVec 32) (k0_hw1 : k0_chk1 i v0), ∀ (k0_h1 : k0_cond1 i = 1#1), ∀ a, (k0_off1 v0) a + S1024x4096.size a ≤ S2048x4096.size a := fun i v0 k0_hw1 k0_h1 => k0_hw1.2.1 k0_h1
theorem k0_off1_wordsbf16 : ∀ (i : grid0.Coords) (v0 : BitVec 32) (k0_hw1 : k0_chk1 i v0), ∀ (k0_h1 : k0_cond1 i = 1#1), (Rect.unit (s := S2048x4096) (k0_off1 v0) S1024x4096.size (k0_off1_inb i v0 k0_hw1 k0_h1)).WholeWords (EltTy.packing .bf16) := fun i v0 k0_hw1 k0_h1 => k0_hw1.2.2.1 k0_h1 (k0_off1_inb i v0 k0_hw1 k0_h1)
theorem k0_off2_inb : ∀ (i : grid0.Coords) (v0 : BitVec 32) (k0_hw1 : k0_chk1 i v0), ∀ (k0_h1 : k0_cond1 i = 1#1), ∀ a, (k0_off2 v0) a + S1024x4096.size a ≤ S2048x4096.size a := fun i v0 k0_hw1 k0_h1 => k0_hw1.2.2.2.1 k0_h1
theorem k0_off2_wordsbf16 : ∀ (i : grid0.Coords) (v0 : BitVec 32) (k0_hw1 : k0_chk1 i v0), ∀ (k0_h1 : k0_cond1 i = 1#1), (Rect.unit (s := S2048x4096) (k0_off2 v0) S1024x4096.size (k0_off2_inb i v0 k0_hw1 k0_h1)).WholeWords (EltTy.packing .bf16) := fun i v0 k0_hw1 k0_h1 => k0_hw1.2.2.2.2.1 k0_h1 (k0_off2_inb i v0 k0_hw1 k0_h1)
theorem k0_dev2_lt : ∀ (i : grid0.Coords) (v0 : BitVec 32) (k0_hw1 : k0_chk1 i v0) (d2 : Dev nD), ∀ (k0_h2 : k0_cond2 i = 1#1), (k0_dev2 v0 d2) < nD := fun i v0 k0_hw1 d2 k0_h2 => k0_hw1.2.2.2.2.2.1 d2 k0_h2
theorem k0_dev3_lt : ∀ (i : grid0.Coords) (v0 : BitVec 32) (k0_hw1 : k0_chk1 i v0) (d2 : Dev nD), ∀ (k0_h3 : k0_cond3 i = 1#1), (k0_dev3 v0 d2) < nD := fun i v0 k0_hw1 d2 k0_h3 => k0_hw1.2.2.2.2.2.2.1 d2 k0_h3
theorem k0_dev4_lt : ∀ (i : grid0.Coords) (v0 : BitVec 32) (k0_hw1 : k0_chk1 i v0) (d2 : Dev nD), ∀ (k0_h4 : k0_cond4 i = 1#1), (k0_dev4 v0 d2) < nD := fun i v0 k0_hw1 d2 k0_h4 => k0_hw1.2.2.2.2.2.2.2.1 d2 k0_h4
theorem k0_dev5_lt : ∀ (i : grid0.Coords) (v0 : BitVec 32) (k0_hw1 : k0_chk1 i v0) (d2 : Dev nD), ∀ (k0_h5 : k0_cond5 i = 1#1), (k0_dev5 v0 d2) < nD := fun i v0 k0_hw1 d2 k0_h5 => k0_hw1.2.2.2.2.2.2.2.2.1 d2 k0_h5
theorem k0_dev6_lt : ∀ (i : grid0.Coords) (v0 : BitVec 32) (k0_hw1 : k0_chk1 i v0) (d2 : Dev nD), ∀ (k0_h6 : k0_cond6 i = 1#1), (k0_dev6 v0 d2) < nD := fun i v0 k0_hw1 d2 k0_h6 => k0_hw1.2.2.2.2.2.2.2.2.2.1 d2 k0_h6
theorem k0_dev7_lt : ∀ (i : grid0.Coords) (v0 : BitVec 32) (k0_hw1 : k0_chk1 i v0) (d2 : Dev nD), ∀ (k0_h7 : k0_cond7 i = 1#1), (k0_dev7 v0 d2) < nD := fun i v0 k0_hw1 d2 k0_h7 => k0_hw1.2.2.2.2.2.2.2.2.2.2.1 d2 k0_h7
theorem k0_dev8_lt : ∀ (i : grid0.Coords) (v0 : BitVec 32) (k0_hw1 : k0_chk1 i v0) (d2 : Dev nD), ∀ (k0_h8 : k0_cond8 i = 1#1), (k0_dev8 v0 d2) < nD := fun i v0 k0_hw1 d2 k0_h8 => k0_hw1.2.2.2.2.2.2.2.2.2.2.2.1 d2 k0_h8
theorem k0_dev9_lt : ∀ (i : grid0.Coords) (v0 : BitVec 32) (k0_hw1 : k0_chk1 i v0) (d2 : Dev nD), ∀ (k0_h9 : k0_cond9 i = 1#1), (k0_dev9 v0 d2) < nD := fun i v0 k0_hw1 d2 k0_h9 => k0_hw1.2.2.2.2.2.2.2.2.2.2.2.2.1 d2 k0_h9
theorem k0_dev10_lt : ∀ (i : grid0.Coords) (v0 : BitVec 32) (k0_hw1 : k0_chk1 i v0) (d2 : Dev nD), ∀ (k0_h10 : k0_cond10 i = 1#1), (k0_dev10 v0 d2) < nD := fun i v0 k0_hw1 d2 k0_h10 => k0_hw1.2.2.2.2.2.2.2.2.2.2.2.2.2.1 d2 k0_h10
theorem k0_dev11_lt : ∀ (i : grid0.Coords) (v0 : BitVec 32) (k0_hw1 : k0_chk1 i v0) (d2 : Dev nD), ∀ (k0_h11 : k0_cond11 i = 1#1), (k0_dev11 v0 d2) < nD := fun i v0 k0_hw1 d2 k0_h11 => k0_hw1.2.2.2.2.2.2.2.2.2.2.2.2.2.2.1 d2 k0_h11
theorem k0_dev12_lt : ∀ (i : grid0.Coords) (v0 : BitVec 32) (k0_hw1 : k0_chk1 i v0) (d2 : Dev nD), ∀ (k0_h12 : k0_cond12 i = 1#1), (k0_dev12 v0 d2) < nD := fun i v0 k0_hw1 d2 k0_h12 => k0_hw1.2.2.2.2.2.2.2.2.2.2.2.2.2.2.2.1 d2 k0_h12
theorem k0_dev13_lt : ∀ (i : grid0.Coords) (v0 : BitVec 32) (k0_hw1 : k0_chk1 i v0) (d2 : Dev nD), ∀ (k0_h13 : k0_cond13 i = 1#1), (k0_dev13 v0 d2) < nD := fun i v0 k0_hw1 d2 k0_h13 => k0_hw1.2.2.2.2.2.2.2.2.2.2.2.2.2.2.2.2.1 d2 k0_h13
theorem k0_dev14_lt : ∀ (i : grid0.Coords) (v0 : BitVec 32) (k0_hw1 : k0_chk1 i v0) (d2 : Dev nD), ∀ (k0_h14 : k0_cond14 i = 1#1), (k0_dev14 v0 d2) < nD := fun i v0 k0_hw1 d2 k0_h14 => k0_hw1.2.2.2.2.2.2.2.2.2.2.2.2.2.2.2.2.2.1 d2 k0_h14
theorem k0_dev15_lt : ∀ (i : grid0.Coords) (v0 : BitVec 32) (k0_hw1 : k0_chk1 i v0) (d2 : Dev nD), ∀ (k0_h15 : k0_cond15 i = 1#1), (k0_dev15 v0 d2) < nD := fun i v0 k0_hw1 d2 k0_h15 => k0_hw1.2.2.2.2.2.2.2.2.2.2.2.2.2.2.2.2.2.2.1 d2 k0_h15
theorem k0_dev16_lt : ∀ (i : grid0.Coords) (v0 : BitVec 32) (k0_hw1 : k0_chk1 i v0) (d2 : Dev nD), ∀ (k0_h16 : k0_cond16 i = 1#1), (k0_dev16 v0 d2) < nD := fun i v0 k0_hw1 d2 k0_h16 => k0_hw1.2.2.2.2.2.2.2.2.2.2.2.2.2.2.2.2.2.2.2.1 d2 k0_h16
theorem k0_dev17_lt : ∀ (i : grid0.Coords) (v0 : BitVec 32) (k0_hw1 : k0_chk1 i v0) (d2 : Dev nD), ∀ (k0_h17 : k0_cond17 i = 1#1), (k0_dev17 v0 d2) < nD := fun i v0 k0_hw1 d2 k0_h17 => k0_hw1.2.2.2.2.2.2.2.2.2.2.2.2.2.2.2.2.2.2.2.2 d2 k0_h17

def k0_cond18 (i : grid0.Coords) : BitVec 1 :=
  let arg0 : BitVec 32 := BitVec.ofNat 32 (i 0).val
  let c16_i32 : BitVec 32 := 16#32
  let v69 : BitVec 1 := Scalar.cmpi .eq arg0 c16_i32
  let v70 : BitVec 32 := Scalar.extui v69
  let c0_i32_32 : BitVec 32 := 0#32
  let v71 : BitVec 1 := Scalar.cmpi .ne v70 c0_i32_32
  v71

def k0_cond19 (i : grid0.Coords) : BitVec 1 :=
  let arg0 : BitVec 32 := BitVec.ofNat 32 (i 0).val
  let c17_i32 : BitVec 32 := 17#32
  let v72 : BitVec 1 := Scalar.cmpi .eq arg0 c17_i32
  let v73 : BitVec 32 := Scalar.extui v72
  let c0_i32_33 : BitVec 32 := 0#32
  let v74 : BitVec 1 := Scalar.cmpi .ne v73 c0_i32_33
  v74

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x64x128, .f32⟩
  | .hbm, ⟨1, _⟩ => ⟨S8192x8192, .f32⟩
  | .hbm, ⟨2, _⟩ => ⟨S1x2048x8192, .f32⟩
  | .hbm, ⟨3, _⟩ => ⟨S1x2048x8192, .f32⟩
  | _, _ => ⟨S1x2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Cells.lean ====
/- The kernel's buffers slot by slot, its semaphore cells, the contents that move between devices, and the schedule of
   who pays what onto which semaphore.

   Device c exchanges only with its partner pr c, the device eight further on. Per device:
   * the barrier: the partner's one signal, waited once at grid point 0; it hands over the partner's receive buffer;
   * receive semaphore j (j < 16): the partner's copy number j, waited at grid point j + 2; it hands over receive slot j
     holding the partner's block j;
   * send semaphore k (k < 2): the own copies j = 2r + k, round r each, waited at grid point j + 2; each hands send slot k
     back;
   * the local semaphore: two copies out of the operand at grid point 0, each waited at once. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Rounds
public import Idealize.ShloMosaic.Lib.Ring
public import Idealize.ShloMosaic.Lib.StableHlo
public import Idealize.ShloMosaic.Lib.Tactic

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The pipeline's rounds beside the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

/-! ## Devices -/

/-- The partner: the device with the other first mesh coordinate. -/
def pr (c : Dev nD) : Dev nD := ⟨(c.val + 8) % 16, Nat.mod_lt _ (by decide)⟩
theorem pr_pr (c : Dev nD) : pr (pr c) = c := by revert c; decide
def partners : Dev nD ≃ Dev nD := ⟨pr, pr, pr_pr, pr_pr⟩

/-- The first mesh coordinate, as the table holds it. -/
def tb (c : Dev nD) : BitVec 32 := BitVec.ofNat 32 (c.val / 8)

/-- The device every signal and copy of device c names is its partner. -/
theorem dev_eq (c : Dev nD) : k0_dev1 (tb c) c = (pr c).val := by
  revert c; unfold k0_dev1 tb pr; decide

/-! ## The slots of the scratch buffers -/

theorem inb2 (k : ℕ) (h : k < 2) : ∀ a, (![k, 0, 0] : Fin 3 → ℕ) a + S1x1024x512.size a ≤ S2x1024x512.size a := by
  intro a; fin_cases a <;> simp <;> omega
theorem inb3 (k : ℕ) (h : k < 3) : ∀ a, (![k, 0, 0] : Fin 3 → ℕ) a + S1x1024x512.size a ≤ S3x1024x512.size a := by
  intro a; fin_cases a <;> simp <;> omega
theorem inb16 (k : ℕ) (h : k < 16) : ∀ a, (![k, 0, 0] : Fin 3 → ℕ) a + S1x1024x512.size a ≤ S16x1024x512.size a := by
  intro a; fin_cases a <;> simp <;> omega

abbrev rect2 (k : ℕ) (h : k < 2) : Rect S2x1024x512 := Rect.unit (s := S2x1024x512) ![k, 0, 0] S1x1024x512.size (inb2 k h)
abbrev rect3 (k : ℕ) (h : k < 3) : Rect S3x1024x512 := Rect.unit (s := S3x1024x512) ![k, 0, 0] S1x1024x512.size (inb3 k h)
abbrev rect16 (k : ℕ) (h : k < 16) : Rect S16x1024x512 := Rect.unit (s := S16x1024x512) ![k, 0, 0] S1x1024x512.size (inb16 k h)

theorem lt2 (n : ℕ) : n % 2 < 2 := Nat.mod_lt _ (by decide)
theorem lt3 (n : ℕ) : n % 3 < 3 := Nat.mod_lt _ (by decide)
theorem lt16 (n : ℕ) : n % 16 < 16 := Nat.mod_lt _ (by decide)

/-- Send slot n mod 2, stash slot n mod 3, receive slot n mod 16, each as a 1×1024×512 piece of its buffer. -/
abbrev sndM (n : ℕ) : Memref sig .tc .vmem S1x1024x512 .bf16 := (Memref.whole cc0_scratch2).slice (rect2 (n % 2) (lt2 n)) (fun _ => rfl)
abbrev stM (n : ℕ) : Memref sig .tc .vmem S1x1024x512 .bf16 := (Memref.whole cc0_scratch3).slice (rect3 (n % 3) (lt3 n)) (fun _ => rfl)
abbrev rcvM (n : ℕ) : Memref sig .tc .vmem S1x1024x512 .bf16 := (Memref.whole cc0_scratch4).slice (rect16 (n % 16) (lt16 n)) (fun _ => rfl)
/-- The same send and receive slots as 1024×512 matrices: the ends of the copies. -/
abbrev sndQ (n : ℕ) : Memref sig .tc .vmem S1024x512 .bf16 := (sndM n).squeeze S1024x512 squeezes_S1x1024x512_S1024x512
abbrev rcvQ (n : ℕ) : Memref sig .tc .vmem S1024x512 .bf16 := (rcvM n).squeeze S1024x512 squeezes_S1x1024x512_S1024x512

theorem sndM_congr {m n : ℕ} (h : m % 2 = n % 2) : sndM m = sndM n := by
  have e : ∀ k l (hk : k < 2) (hl : l < 2), k = l → ((Memref.whole cc0_scratch2).slice (rect2 k hk) (fun _ => rfl) : Memref sig .tc .vmem S1x1024x512 .bf16)
      = (Memref.whole cc0_scratch2).slice (rect2 l hl) (fun _ => rfl) := by rintro k _ _ _ rfl; rfl
  exact e _ _ _ _ h
theorem stM_congr {m n : ℕ} (h : m % 3 = n % 3) : stM m = stM n := by
  have e : ∀ k l (hk : k < 3) (hl : l < 3), k = l → ((Memref.whole cc0_scratch3).slice (rect3 k hk) (fun _ => rfl) : Memref sig .tc .vmem S1x1024x512 .bf16)
      = (Memref.whole cc0_scratch3).slice (rect3 l hl) (fun _ => rfl) := by rintro k _ _ _ rfl; rfl
  exact e _ _ _ _ h

/-- Send slot and receive slot semaphores, and the local copies' semaphore. -/
abbrev sndS (n : ℕ) : DmaSem sig := ⟨4 + n % 2, by have := lt2 n; show _ < 23; omega⟩
abbrev rcvS (n : ℕ) : DmaSem sig := ⟨6 + n % 16, by have := lt16 n; show _ < 23; omega⟩
abbrev locS : DmaSem sig := ⟨22, by show 22 < 23; decide⟩

/-! ## Cells -/

abbrev barCell (c : Dev nD) : GSem nD τ sig := ((c : Thread nD τ), .reg barrier0)
abbrev sndCell (c : Dev nD) (n : ℕ) : GSem nD τ sig := ((c : Thread nD τ), .dma (sndS n))
abbrev rcvCell (c : Dev nD) (n : ℕ) : GSem nD τ sig := ((c : Thread nD τ), .dma (rcvS n))
abbrev locCell (c : Dev nD) : GSem nD τ sig := ((c : Thread nD τ), .dma locS)

/-- What one remote copy pays, and what one local copy pays. -/
abbrev N : ℕ := (rcvQ 0).view.dmaCredit
abbrev Nl : ℕ := (Memref.whole cc0_scratch0 : Memref sig .tc .vmem S1024x4096 .bf16).view.dmaCredit
theorem N_pos : 0 < N := View.dmaCredit_pos _ (by decide)
theorem Nl_pos : 0 < Nl := View.dmaCredit_pos _ (by decide)

/-! ## Contents -/

/-- What the region finds in the two arrays it reads: the rounded left operand and the right one, per device. -/
structure Operands (F : FTy → Type) where
  a : Dev nD → S2048x4096.Idx → Elt F .bf16
  w : Dev nD → S4096x8192.Idx → Elt F .f32

theorem off1_inb (c : Dev nD) : ∀ a, k0_off1 (tb c) a + S1024x4096.size a ≤ S2048x4096.size a := by
  revert c; unfold k0_off1 tb; decide
theorem off2_inb (c : Dev nD) : ∀ a, k0_off2 (tb c) a + S1024x4096.size a ≤ S2048x4096.size a := by
  revert c; unfold k0_off2 tb; decide

/-- The rows of the left operand device c keeps, and the rows it multiplies for its partner. -/
abbrev opM1 (c : Dev nD) : Memref sig .tc .hbm S1024x4096 .bf16 :=
  (Memref.whole main_v2).slice (Rect.unit (s := S2048x4096) (k0_off1 (tb c)) S1024x4096.size (off1_inb c)) (fun _ => rfl)
abbrev opM2 (c : Dev nD) : Memref sig .tc .hbm S1024x4096 .bf16 :=
  (Memref.whole main_v2).slice (Rect.unit (s := S2048x4096) (k0_off2 (tb c)) S1024x4096.size (off2_inb c)) (fun _ => rfl)

variable (D : Operands F)

def mine (c : Dev nD) : S1024x4096.Idx → Elt F .bf16 := (opM1 c).view.read (Elt F) (D.a c)
def theirs (c : Dev nD) : S1024x4096.Idx → Elt F .bf16 := (opM2 c).view.read (Elt F) (D.a c)

/-- Column block n of the right operand (the last one again past the sixteenth). -/
def wblk (c : Dev nD) (n : ℕ) : S4096x512.Idx → Elt F .f32 :=
  fun x => D.w c (fun a => match a with
    | 0 => ⟨(x 0).val, (x 0).isLt⟩
    | 1 => ⟨512 * min n 15 + (x 1).val, by have := (x 1).isLt; have h : (x 1).val < 512 := this; show _ < 8192; omega⟩)

/-- Block n as device c sends it, as it stashes it, and the output block it computes from its stash and its partner's. -/
def snd (c : Dev nD) (n : ℕ) : S1x1024x512.Idx → Elt F .bf16 := k0_pay7 (k0_pay36 (wblk D c n) (theirs D c))
def sth (c : Dev nD) (n : ℕ) : S1x1024x512.Idx → Elt F .bf16 := k0_pay8 (k0_pay37 (wblk D c n) (mine D c))
def outv (c : Dev nD) (n : ℕ) : S1024x512.Idx → Elt F .f32 := k0_pay42 (sth D c n) (snd D (pr c) n)

/-! ## Slots held -/

/-- Device c's slot M, reading X through the slot; and at contents not chosen. -/
def slotAt (M : Memref sig .tc .vmem S1x1024x512 .bf16) (c : Dev nD) (X : S1x1024x512.Idx → Elt F .bf16) : sProp 𝕄 :=
  iprop(∃ f : Buf (Elt F) (M.view.loc (c : Thread nD τ)), ⌜M.view.read (Elt F) f = X⌝ ∗ M.view.loc (c : Thread nD τ) ↦[M.view.set]{fullShare} f)
def slotAny (M : Memref sig .tc .vmem S1x1024x512 .bf16) (c : Dev nD) : sProp 𝕄 :=
  iprop(∃ f : Buf (Elt F) (M.view.loc (c : Thread nD τ)), M.view.loc (c : Thread nD τ) ↦[M.view.set]{fullShare} f)

theorem slotAt_any (M : Memref sig .tc .vmem S1x1024x512 .bf16) (c : Dev nD) (X : S1x1024x512.Idx → Elt F .bf16) :
    slotAt M c X ⊢ (slotAny M c : sProp 𝕄) := by
  unfold slotAt slotAny
  iintro ⟨%f, -, H⟩; iexists f; iexact H

/-- A whole buffer of device c, held at f. -/
abbrev pt (c : Dev nD) (b : Ref sig .tc) (f : b.ty.Contents (Elt F)) : sProp 𝕄 := (Memref.whole b).view.loc (c : Thread nD τ) ↦{fullShare} f

/-! ## The schedule -/

/-- How many rounds a semaphore's cell has, and what each pays. -/
def rounds : SemLoc sig → ℕ
  | .reg _ => 1
  | .dma s => if s.val < 4 then 0 else if s.val < 6 then 8 else if s.val < 22 then 1 else 2
def amt : SemLoc sig → ℕ
  | .reg _ => 1
  | .dma s => if s.val < 22 then N else Nl

/-- The partner's signal: its receive buffer, at contents not chosen, and that its receive cells are in round 0. -/
def barPay (c : Dev nD) : sProp 𝕄 :=
  iprop((bigSep (Finset.range 16) fun j => slotAny (rcvM j) (pr c)) ∗ bigSep (Finset.range 16) fun j => reached ER (rcvCell (pr c) j) 0)
/-- The local copies: the buffer filled, and the operand's rows back. -/
def locPay (c : Dev nD) (r : ℕ) : sProp 𝕄 :=
  if r = 0 then iprop(pt c cc0_scratch0 (mine D c) ∗ (opM1 c).view.loc (c : Thread nD τ) ↦[(opM1 c).view.set]{fullShare} D.a c)
  else iprop(pt c cc0_scratch1 (theirs D c) ∗ (opM2 c).view.loc (c : Thread nD τ) ↦[(opM2 c).view.set]{fullShare} D.a c)

/-- What the payer of round r on device c's semaphore hands over. -/
def pay (c : Dev nD) (r : ℕ) : SemLoc sig → sProp 𝕄
  | .reg _ => barPay c
  | .dma s => if s.val < 6 then slotAny (sndM s.val) c
      else if s.val < 22 then slotAt (rcvM (s.val - 6)) c (snd D (pr c) (s.val - 6)) else locPay D c r

def sched : Rounds.Schedule (GSem nD τ sig) Unit 𝕄 where
  duties g r := if g.1.2 = .tc ∧ r < rounds g.2 then {()} else ∅
  unitless _ := False
  amount g _ _ := amt g.2
  payload g r _ := pay D g.1.1 r g.2
  amount_pos g _ _ _ := by
    unfold amt
    split
    · exact Nat.one_pos
    · split
      · exact N_pos
      · exact Nl_pos

instance slotAny_storable (M : Memref sig .tc .vmem S1x1024x512 .bf16) (c : Dev nD) :
    BI.Storable (upEmb : UEmb _ 𝕄) (slotAny (F := F) M c) := by unfold slotAny; infer_instance
instance slotAt_storable (M : Memref sig .tc .vmem S1x1024x512 .bf16) (c : Dev nD) (X : S1x1024x512.Idx → Elt F .bf16) :
    BI.Storable (upEmb : UEmb _ 𝕄) (slotAt M c X) := by unfold slotAt; infer_instance
instance barPay_storable (c : Dev nD) : BI.Storable (upEmb : UEmb _ 𝕄) (barPay (F := F) c) := by unfold barPay; infer_instance
instance locPay_storable (c : Dev nD) (r : ℕ) : BI.Storable (upEmb : UEmb _ 𝕄) (locPay D c r) := by
  unfold locPay; split <;> infer_instance

instance sched_payload_storable (g : GSem nD τ sig) (r : ℕ) (d : Unit) :
    BI.Storable (upEmb : UEmb _ 𝕄) ((sched (F := F) D).payload g r d) := by
  show BI.Storable upEmb (pay D g.1.1 r g.2)
  unfold pay
  split
  · infer_instance
  · (repeat' split) <;> infer_instance

section Sched

variable (c : Dev nD)

theorem rounds_snd (n : ℕ) : rounds (.dma (sndS n)) = 8 := by
  have := lt2 n
  simp only [rounds]; rw [if_neg (by omega), if_pos (by omega)]
theorem rounds_rcv (n : ℕ) : rounds (.dma (rcvS n)) = 1 := by
  have := lt16 n
  simp only [rounds]; rw [if_neg (by omega), if_neg (by omega), if_pos (by omega)]
theorem rounds_loc : rounds (.dma locS) = 2 := by decide

theorem amt_snd (n : ℕ) : amt (.dma (sndS n)) = N := by
  have := lt2 n; simp only [amt]; rw [if_pos (by omega)]
theorem amt_rcv (n : ℕ) : amt (.dma (rcvS n)) = N := by
  have := lt16 n; simp only [amt]; rw [if_pos (by omega)]
theorem amt_loc : amt (.dma locS) = Nl := by simp only [amt]; rw [if_neg (by decide)]

/-- Every round a cell has is one duty; every later one none. -/
theorem duties_of (sm : SemLoc sig) (r : ℕ) (h : r < rounds sm) : (sched (F := F) D).duties ((c : Thread nD τ), sm) r = {()} := if_pos ⟨rfl, h⟩
theorem duties_later (sm : SemLoc sig) (r : ℕ) (h : rounds sm ≤ r) : (sched (F := F) D).duties ((c : Thread nD τ), sm) r = ∅ := if_neg fun h' => absurd h'.2 (Nat.not_lt.mpr h)
theorem mem_duties (sm : SemLoc sig) (r : ℕ) (h : r < rounds sm) : () ∈ (sched (F := F) D).duties ((c : Thread nD τ), sm) r := by
  rw [duties_of D c sm r h]; exact Finset.mem_singleton_self _
theorem expect_of (sm : SemLoc sig) (r : ℕ) (h : r < rounds sm) : (sched (F := F) D).expect ((c : Thread nD τ), sm) r = amt sm := by
  unfold Schedule.expect Schedule.amountOf; rw [duties_of D c sm r h, Finset.sum_singleton]; rfl
theorem rest_of (sm : SemLoc sig) (r : ℕ) (h : r < rounds sm) :
    bigSep ((sched (F := F) D).duties ((c : Thread nD τ), sm) r \ ∅) (fun u => (sched (F := F) D).payload ((c : Thread nD τ), sm) r u) = pay D c r sm := by
  rw [Finset.sdiff_empty, duties_of D c sm r h, bigSep_singleton]; rfl

theorem pay_snd (n r : ℕ) : pay D c r (.dma (sndS n)) = slotAny (sndM n) c := by
  have := lt2 n
  simp only [pay]; rw [if_pos (by omega)]
  rw [sndM_congr (show (4 + n % 2) % 2 = n % 2 by omega)]
theorem pay_rcv (n r : ℕ) (hn : n < 16) : pay D c r (.dma (rcvS n)) = slotAt (rcvM n) c (snd D (pr c) n) := by
  simp only [pay]; rw [if_neg (by omega), if_pos (by omega)]
  simp only [Nat.mod_eq_of_lt hn, Nat.add_sub_cancel_left]
theorem pay_loc0 : pay D c 0 (.dma locS) = iprop(pt c cc0_scratch0 (mine D c) ∗ (opM1 c).view.loc (c : Thread nD τ) ↦[(opM1 c).view.set]{fullShare} D.a c) := by
  simp only [pay]; rw [if_neg (by decide), if_neg (by decide)]; unfold locPay; rw [if_pos rfl]
theorem pay_loc1 : pay D c 1 (.dma locS) = iprop(pt c cc0_scratch1 (theirs D c) ∗ (opM2 c).view.loc (c : Thread nD τ) ↦[(opM2 c).view.set]{fullShare} D.a c) := by
  simp only [pay]; rw [if_neg (by decide), if_neg (by decide)]; unfold locPay; rw [if_neg (by decide)]

/-- A cell all of whose rounds have been waited for closes, its counter at zero. -/
theorem close (κ : ℕ) (sm : SemLoc sig) (R : ℕ) (h : rounds sm = R) :
    iprop(cellInv ER (sched D) κ ((c : Thread nD τ), sm) ∗ atPos ER ((c : Thread nD τ), sm) R ∅ 0) ⊢ (|={Set.univ}=> semVal ((c : Thread nD τ), sm) 0 : sProp 𝕄) :=
  Rounds.cell_close ER (sched D) (Set.mem_univ κ) id fun r hr => duties_later D c sm r (by omega)

end Sched

/-! ## What each device owes; the levels -/

/-- The copies not yet sent: n, n+1, …, 15, each owed to the partner's receive cell. -/
def owedR (c : Dev nD) (n : ℕ) : CellTallies nD τ sig Unit := ∑ j ∈ Finset.Ico n 16, tallyAt (rcvCell (pr c) j) () N
/-- What device c owes before grid point n: at the start the barrier signal too. -/
def owed (c : Dev nD) (n : ℕ) : CellTallies nD τ sig Unit :=
  if n = 0 then owedR c 0 + tallyAt (barCell (pr c)) () 1 else owedR c n

theorem Ico_insert {n : ℕ} (h : n < 16) : Finset.Ico n 16 = insert n (Finset.Ico (n + 1) 16) := by
  ext j; simp only [Finset.mem_Ico, Finset.mem_insert]; omega
theorem not_mem_Ico (n : ℕ) : n ∉ Finset.Ico (n + 1) 16 := by simp

theorem owedR_step (c : Dev nD) (n : ℕ) (h : n < 16) : owedR c n = owedR c (n + 1) + tallyAt (rcvCell (pr c) n) () N := by
  unfold owedR; rw [Ico_insert h, Finset.sum_insert (not_mem_Ico n), add_comm]
theorem owedR_last (c : Dev nD) (n : ℕ) (h : 16 ≤ n) : owedR c n = 0 := by
  unfold owedR; rw [Finset.Ico_eq_empty (by omega), Finset.sum_empty]

def L (g : GSem nD τ sig) : Finset Unit := if g.1.2 = .tc then {()} else ∅
/-- The barrier at level 1, receive semaphore j at level j + 2, every other semaphore at 0. -/
def lvS : SemLoc sig → ℕ
  | .reg _ => 1
  | .dma s => if 6 ≤ s.val ∧ s.val < 22 then s.val - 4 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (n : ℕ) (h : n < 16) : lv (rcvCell c n) () = n + 2 := by
  simp only [lv, lvS, Nat.mod_eq_of_lt h]; rw [if_pos (by omega)]; omega

theorem owedR_pos {c : Dev nD} {n : ℕ} {g : GSem nD τ sig} {u : Unit} (h : 0 < owedR c n g u) :
    ∃ j, n ≤ j ∧ j < 16 ∧ g = rcvCell (pr c) j := by
  unfold owedR at h
  rw [Finset.sum_apply, Finsupp.finset_sum_apply] at h
  obtain ⟨j, hj, hp⟩ := Finset.exists_ne_zero_of_sum_ne_zero (Nat.pos_iff_ne_zero.mp h)
  rw [Finset.mem_Ico] at hj
  rw [tallyAt_apply] at hp
  split at hp
  · next hg => exact ⟨j, hj.1, hj.2, hg.1⟩
  · exact absurd rfl hp

/-- Everything owed sits on a TensorCore's cell at a level above 0. -/
theorem owed_pos {c : Dev nD} {n : ℕ} {g : GSem nD τ sig} {u : Unit} (h : 0 < owed c n g u) : u ∈ L g ∧ 0 < lv g u := by
  have hR : ∀ k, 0 < owedR c k g u → u ∈ L g ∧ 0 < lv g u := fun k h => by
    obtain ⟨j, -, hj, rfl⟩ := owedR_pos h
    exact ⟨by rw [L_tc]; exact Finset.mem_singleton_self _, by rw [show u = () from rfl, lv_rcv _ _ hj]; omega⟩
  unfold owed at h
  split at h
  · rw [Pi.add_apply, Finsupp.add_apply] at h
    rcases Nat.add_pos_iff_pos_or_pos.mp h with h | h
    · exact hR _ h
    · rw [tallyAt_apply] at h
      split at h
      · next hg => rw [hg.1]; exact ⟨by rw [L_tc]; exact Finset.mem_singleton_self _, by show 0 < 1; decide⟩
      · exact absurd h (Nat.lt_irrefl 0)
  · exact hR _ h

/-- Owing the copies n … 15, a device may wait on any semaphore of level below n + 2. -/
theorem mayWait (c : Dev nD) (sm : SemLoc sig) (n : ℕ) (h : lvS sm < n + 2) :
    (levAts L lv : sProp 𝕄) ⊢ MayWait (c : Thread nD τ) sm () (owedR c n) :=
  MayOwe.of_cut (L := L) (lev := lv) (lvS sm) (fun p hp => by rw [Finset.mem_singleton.mp hp, L_tc]; exact Finset.mem_singleton_self _)
    (fun g u hg => by
      obtain ⟨j, -, hj, rfl⟩ := owedR_pos hg
      rw [L_tc]; exact Finset.mem_singleton_self _)
    (fun p hp => by rw [Finset.mem_singleton.mp hp]; exact Nat.le_refl _)
    (fun g u hg => by
      obtain ⟨j, hn, hj, rfl⟩ := owedR_pos hg
      rw [show u = () from rfl, lv_rcv _ _ hj]; omega)

end Cert.Talk

end
-- ==== Proof.Prog.lean ====
/- The kernel's body at grid point n, written once for every n: what a point does is a few pieces of program over the slots
   n mod 2, n mod 3, n mod 16, and the printed body at each of the eighteen points is these pieces put together. -/
module

public import proofs.«01_k».proof.Proof.Cells

@[expose] public section

noncomputable section

namespace Cert.Talk

open Idealize.ShloMosaic Idealize.ShloMosaic.TcCoe
open Idealize.SL Idealize.SL.Sem
open Cert.KernelIdeal Cert.KernelIdeal.Gen

variable {F : FTy → Type} [FloatOps F]

/-- Programs of the kernel's body, run for their effects. -/
abbrev BodyP (F : FTy → Type) : Type 1 := Prog (TpuEff nD τ sig (Elt F) Λ₀ .tc) PUnit

/-! ## Whole words: the slots fall on word boundaries -/

theorem words2 : ∀ (k : ℕ) (h : k < 2), (rect2 k h).WholeWords (EltTy.packing .bf16) := by decide
theorem words16 : ∀ (k : ℕ) (h : k < 16), (rect16 k h).WholeWords (EltTy.packing .bf16) := by decide
theorem packed2 : ∀ (k : ℕ) (h : k < 2), (rect2 k h).PackedRows (EltTy.packing .bf16) := by decide
theorem packed3 : ∀ (k : ℕ) (h : k < 3), (rect3 k h).PackedRows (EltTy.packing .bf16) := by decide

abbrev sndB : Memref sig .tc .vmem S2x1024x512 .bf16 := Memref.whole cc0_scratch2
abbrev stB : Memref sig .tc .vmem S3x1024x512 .bf16 := Memref.whole cc0_scratch3
abbrev rcvB : Memref sig .tc .vmem S16x1024x512 .bf16 := Memref.whole cc0_scratch4
abbrev myB : Memref sig .tc .vmem S1024x4096 .bf16 := Memref.whole cc0_scratch0
abbrev peerB : Memref sig .tc .vmem S1024x4096 .bf16 := Memref.whole cc0_scratch1

theorem sndWords (n : ℕ) : (sndQ n).view.WordExact := ((Memref.isWhole_whole cc0_scratch2).wordExact_slice rfl _ (words2 (n % 2) (lt2 n))).reshape _ _
theorem rcvWords (n : ℕ) : (rcvQ n).view.WordExact := ((Memref.isWhole_whole cc0_scratch4).wordExact_slice rfl _ (words16 (n % 16) (lt16 n))).reshape _ _

/-! ## The pieces -/

/-- Wait until the own copy n − 2 has left its send slot. -/
def waitSndP (n : ℕ) (k : BodyP F) : BodyP F :=
  .op (.waitDma2 (sndS n) (rcvQ (n - 2)) (sndQ n) (rcvWords (n - 2)) (sndWords n)) fun _ => k

/-- Put the two products into the send slot and the stash, and start the copy of the send slot to the partner. -/
def sendP (n : ℕ) (dv : Dev nD) (v18 v20 : FVec F S1024x512 .f32) (k : BodyP F) : BodyP F :=
  .op (.load sndB (rect2 (n % 2) (lt2 n)).toLoadRect (View.loadsAt_vmem h_S1x1024x512)) fun _ =>
  .op (.store sndB (rect2 (n % 2) (lt2 n)) (k0_pay7 v18) Finset.univ
    (View.stores_vmem h_S1x1024x512 ((Memref.isWhole_whole cc0_scratch2).storeExact_slice rfl _ (packed2 (n % 2) (lt2 n))) (fun _ => rfl)) (.inl rfl)) fun _ =>
  .op (.load stB (rect3 (n % 3) (lt3 n)).toLoadRect (View.loadsAt_vmem h_S1x1024x512)) fun _ =>
  .op (.store stB (rect3 (n % 3) (lt3 n)) (k0_pay8 v20) Finset.univ
    (View.stores_vmem h_S1x1024x512 ((Memref.isWhole_whole cc0_scratch3).storeExact_slice rfl _ (packed3 (n % 3) (lt3 n))) (fun _ => rfl)) (.inl rfl)) fun _ =>
  .op (.enqueueDma (sndQ n) (.remote (Dev.tc dv) (rcvQ n) (.dma (sndS n))) (.dma (rcvS n)) (sndWords n) (rcvWords n) ⟨⟨rfl, Or.inl rfl⟩, trivial⟩) fun _ => k

/-- Wait for the partner's copy n − 2, add it to the stashed product and store the sum to the output block. -/
def recvP (n : ℕ) (arg4 : Memref sig .tc .vmem S1024x512 .f32) : BodyP F :=
  .op (.waitDma2 (rcvS (n - 2)) (sndQ 0) (rcvQ (n - 2)) (sndWords 0) (rcvWords (n - 2))) fun _ =>
  .op (.load stB (rect3 ((n - 2) % 3) (lt3 _)).toLoadRect (View.loadsAt_vmem h_S1x1024x512)) fun v115 =>
  .op (.load rcvB (rect16 ((n - 2) % 16) (lt16 _)).toLoadRect (View.loadsAt_vmem h_S1x1024x512)) fun v118 =>
  .op (.load arg4 (Rect.unit (s := S1024x512) ![0, 0] S1024x512.size inb_S1024x512_S1024x512_0_0).toLoadRect (View.loadsAt_vmem h_S1024x512)) fun _ =>
  .op (.store arg4 (Rect.unit (s := S1024x512) ![0, 0] S1024x512.size inb_S1024x512_S1024x512_0_0) (k0_pay42 v115 v118) Finset.univ
    (View.stores_vmem_bits_univ h_S1024x512 rfl) (.inl rfl)) fun _ => .ret ⟨⟩

/-- The products of the column block with the two row halves. -/
def loadsP (arg3 : Memref sig .tc .vmem S4096x512 .f32) (k : FVec F S1024x512 .f32 → FVec F S1024x512 .f32 → BodyP F) : BodyP F :=
  .op (.load arg3 (Rect.unit (s := S4096x512) ![0, 0] S4096x512.size inb_S4096x512_S4096x512_0_0).toLoadRect (View.loadsAt_vmem h_S4096x512)) fun v14 =>
  .op (.load peerB (Rect.unit (s := S1024x4096) ![0, 0] S1024x4096.size inb_S1024x4096_S1024x4096_0_0).toLoadRect (View.loadsAt_vmem h_S1024x4096)) fun v17 =>
  .op (.load myB (Rect.unit (s := S1024x4096) ![0, 0] S1024x4096.size inb_S1024x4096_S1024x4096_0_0).toLoadRect (View.loadsAt_vmem h_S1024x4096)) fun v19 =>
  k (k0_pay36 v14 v17) (k0_pay37 v14 v19)

/-- Grid point 0 first: meet the partner at the barrier, then fetch the two row halves. -/
def entryP (dv : Dev nD) (M1 M2 : Memref sig .tc .hbm S1024x4096 .bf16) (h1 : M1.view.WordExact) (h2 : M2.view.WordExact) (k : BodyP F) : BodyP F :=
  .op (.semSignal (Dev.tc dv) barrier0 1) fun _ =>
  .op (.semWait barrier0 1) fun _ =>
  .op (.enqueueDma M1 (.here myB) (.dma locS) h1 (Memref.isWhole_whole cc0_scratch0).wordExact ⟨Or.inl rfl, trivial⟩) fun _ =>
  .op (.waitDma2 locS M1 myB h1 (Memref.isWhole_whole cc0_scratch0).wordExact) fun _ =>
  .op (.enqueueDma M2 (.here peerB) (.dma locS) h2 (Memref.isWhole_whole cc0_scratch1).wordExact ⟨Or.inl rfl, trivial⟩) fun _ =>
  .op (.waitDma2 locS M2 peerB h2 (Memref.isWhole_whole cc0_scratch1).wordExact) fun _ => k

/-- A grid point after the entry. -/
def pointP (n : ℕ) (dv : Dev nD) (arg3 : Memref sig .tc .vmem S4096x512 .f32) (arg4 : Memref sig .tc .vmem S1024x512 .f32) : BodyP F :=
  loadsP arg3 fun v18 v20 =>
    if n < 2 then sendP n dv v18 v20 (.ret ⟨⟩)
    else if n < 16 then waitSndP n (sendP n dv v18 v20 (recvP n arg4))
    else waitSndP n (recvP n arg4)

/-! ## The printed conditions, decided -/

theorem cond1 : ∀ t : Fin grid0.N, k0_cond1 (grid0.coords t) = 1#1 ↔ t.val = 0 := by decide
theorem cond2 : ∀ t : Fin grid0.N, k0_cond2 (grid0.coords t) = 1#1 ↔ t.val = 0 := by decide
theorem cond3 : ∀ t : Fin grid0.N, k0_cond3 (grid0.coords t) = 1#1 ↔ t.val = 1 := by decide
theorem cond4 : ∀ t : Fin grid0.N, k0_cond4 (grid0.coords t) = 1#1 ↔ t.val = 2 := by decide
theorem cond5 : ∀ t : Fin grid0.N, k0_cond5 (grid0.coords t) = 1#1 ↔ t.val = 3 := by decide
theorem cond6 : ∀ t : Fin grid0.N, k0_cond6 (grid0.coords t) = 1#1 ↔ t.val = 4 := by decide
theorem cond7 : ∀ t : Fin grid0.N, k0_cond7 (grid0.coords t) = 1#1 ↔ t.val = 5 := by decide
theorem cond8 : ∀ t : Fin grid0.N, k0_cond8 (grid0.coords t) = 1#1 ↔ t.val = 6 := by decide
theorem cond9 : ∀ t : Fin grid0.N, k0_cond9 (grid0.coords t) = 1#1 ↔ t.val = 7 := by decide
theorem cond10 : ∀ t : Fin grid0.N, k0_cond10 (grid0.coords t) = 1#1 ↔ t.val = 8 := by decide
theorem cond11 : ∀ t : Fin grid0.N, k0_cond11 (grid0.coords t) = 1#1 ↔ t.val = 9 := by decide
theorem cond12 : ∀ t : Fin grid0.N, k0_cond12 (grid0.coords t) = 1#1 ↔ t.val = 10 := by decide
theorem cond13 : ∀ t : Fin grid0.N, k0_cond13 (grid0.coords t) = 1#1 ↔ t.val = 11 := by decide
theorem cond14 : ∀ t : Fin grid0.N, k0_cond14 (grid0.coords t) = 1#1 ↔ t.val = 12 := by decide
theorem cond15 : ∀ t : Fin grid0.N, k0_cond15 (grid0.coords t) = 1#1 ↔ t.val = 13 := by decide
theorem cond16 : ∀ t : Fin grid0.N, k0_cond16 (grid0.coords t) = 1#1 ↔ t.val = 14 := by decide
theorem cond17 : ∀ t : Fin grid0.N, k0_cond17 (grid0.coords t) = 1#1 ↔ t.val = 15 := by decide
theorem cond18 : ∀ t : Fin grid0.N, k0_cond18 (grid0.coords t) = 1#1 ↔ t.val = 16 := by decide
theorem cond19 : ∀ t : Fin grid0.N, k0_cond19 (grid0.coords t) = 1#1 ↔ t.val = 17 := by decide

/-- The device a word and a device id name, if they name one. -/
def dvOf (v0 : BitVec 32) (d : Dev nD) : Dev nD := if h : k0_dev1 v0 d < nD then ⟨k0_dev1 v0 d, h⟩ else d
theorem dvOf_tb (c : Dev nD) : dvOf (tb c) c = pr c := by
  unfold dvOf; rw [dif_pos (by rw [dev_eq]; exact (pr c).isLt)]; exact Fin.ext (dev_eq c)

/-- A grid point after the table entry and the device id are read. -/
def restP (t : Fin grid0.N) (v0 : BitVec 32) (hw : k0_chk1 (grid0.coords t) v0) (d : Dev nD)
    (arg3 : Memref sig .tc .vmem S4096x512 .f32) (arg4 : Memref sig .tc .vmem S1024x512 .f32) : BodyP F :=
  if h : t.val = 0 then
    entryP (dvOf v0 d)
      ((Memref.whole main_v2).slice (Rect.unit (s := S2048x4096) (k0_off1 v0) S1024x4096.size (k0_off1_inb _ v0 hw ((cond1 t).mpr h))) (fun _ => rfl))
      ((Memref.whole main_v2).slice (Rect.unit (s := S2048x4096) (k0_off2 v0) S1024x4096.size (k0_off2_inb _ v0 hw ((cond1 t).mpr h))) (fun _ => rfl))
      ((Memref.isWhole_whole main_v2).wordExact_slice rfl _ (k0_off1_wordsbf16 _ v0 hw ((cond1 t).mpr h)))
      ((Memref.isWhole_whole main_v2).wordExact_slice rfl _ (k0_off2_wordsbf16 _ v0 hw ((cond1 t).mpr h)))
      (pointP t.val (dvOf v0 d) arg3 arg4)
  else pointP t.val (dvOf v0 d) arg3 arg4

def bodyP (t : Fin grid0.N) (arg3 : Memref sig .tc .vmem S4096x512 .f32) (arg4 : Memref sig .tc .vmem S1024x512 .f32) : BodyP F :=
  smemLoad (Memref.whole main_v7) (Rect.unit (s := S1) ![0] S1.size inb_S1_S1_0) numel1_S1 rfl >>= fun v0 =>
  .op (.assume (k0_chk1 (grid0.coords t) v0) (k0_chk1.dec (grid0.coords t) v0)) fun hw =>
  .op .deviceId fun d => restP t v0 hw.down d arg3 arg4

/-- The assumed side condition makes the named device exist at every point that sends. -/
theorem dvOf_eq (t : Fin grid0.N) (v0 : BitVec 32) (hw : k0_chk1 (grid0.coords t) v0) (d : Dev nD) (h : t.val < 16) :
    ∃ hd : k0_dev1 v0 d < nD, dvOf v0 d = ⟨k0_dev1 v0 d, hd⟩ := by
  have hd : k0_dev1 v0 d < nD := by
    obtain ⟨h1, -, -, -, -, h2, h3, h4, h5, h6, h7, h8, h9, h10, h11, h12, h13, h14, h15, h16, h17⟩ := hw
    obtain e | e | e | e | e | e | e | e | e | e | e | e | e | e | e | e : t.val = 0 ∨ t.val = 1 ∨ t.val = 2 ∨ t.val = 3 ∨ t.val = 4 ∨ t.val = 5 ∨ t.val = 6 ∨ t.val = 7
      ∨ t.val = 8 ∨ t.val = 9 ∨ t.val = 10 ∨ t.val = 11 ∨ t.val = 12 ∨ t.val = 13 ∨ t.val = 14 ∨ t.val = 15 := by omega
    · exact h1 d ((cond1 t).mpr e)
    · exact h3 d ((cond3 t).mpr e)
    · exact h4 d ((cond4 t).mpr e)
    · exact h5 d ((cond5 t).mpr e)
    · exact h6 d ((cond6 t).mpr e)
    · exact h7 d ((cond7 t).mpr e)
    · exact h8 d ((cond8 t).mpr e)
    · exact h9 d ((cond9 t).mpr e)
    · exact h10 d ((cond10 t).mpr e)
    · exact h11 d ((cond11 t).mpr e)
    · exact h12 d ((cond12 t).mpr e)
    · exact h13 d ((cond13 t).mpr e)
    · exact h14 d ((cond14 t).mpr e)
    · exact h15 d ((cond15 t).mpr e)
    · exact h16 d ((cond16 t).mpr e)
    · exact h17 d ((cond17 t).mpr e)
  exact ⟨hd, dif_pos hd⟩

set_option maxHeartbeats 4000000 in set_option maxRecDepth 65536 in
/-- The printed body is `bodyP`, at every grid point. -/
theorem body_eq (t : Fin grid0.N) (arg3 : Memref sig .tc .vmem S4096x512 .f32) (h3 : arg3.IsWhole) (arg4 : Memref sig .tc .vmem S1024x512 .f32) (h4 : arg4.IsWhole) :
    cc0_body (F := F) (grid0.coords t) (Memref.whole main_v7) (Memref.isWhole_whole _) (Memref.whole main_v2) (Memref.isWhole_whole _) arg3 h3 arg4 h4
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7
    = bodyP t arg3 arg4 := by
  rw [cc0_body_eq_skeleton]
  unfold cc0_body_skel bodyP
  have hn : t.val < 18 := t.isLt
  obtain ⟨n, hN⟩ := t
  obtain e | e | e | e | e | e | e | e | e | e | e | e | e | e | e | e | e | e : n = 0 ∨ n = 1 ∨ n = 2 ∨ n = 3 ∨ n = 4 ∨ n = 5 ∨ n = 6 ∨ n = 7
      ∨ n = 8 ∨ n = 9 ∨ n = 10 ∨ n = 11 ∨ n = 12 ∨ n = 13 ∨ n = 14 ∨ n = 15 ∨ n = 16 ∨ n = 17 := by change n < 18 at hn; omega
  all_goals
    subst e
    simp only [k0_part15_eq_skeleton, k0_part16_eq_skeleton, k0_part15_skel, k0_part16_skel, cond1, cond2, cond3, cond4, cond5, cond6, cond7, cond8, cond9, cond10,
      cond11, cond12, cond13, cond14, cond15, cond16, cond17, cond18, cond19, Nat.reduceEqDiff, OfNat.ofNat_ne_zero, OfNat.zero_ne_ofNat, OfNat.one_ne_ofNat, OfNat.ofNat_ne_one,
      zero_ne_one, one_ne_zero, ↓reduceDIte, bind_assoc, pure_bind, Prog.bind_lift, Prog.bind_op]
    refine congrArg (Bind.bind _) (funext fun v0 => congrArg (Prog.op _) (funext fun hw => congrArg (Prog.op _) (funext fun d => ?_)))
    have hd := dvOf_eq _ v0 hw.down d
    simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, bind_assoc, pure_bind,
      Prog.bind_lift, Prog.bind_op, semSignalWord, semWaitWord, restP, entryP, pointP, loadsP, sendP, recvP, waitSndP, Nat.reduceLT, Nat.one_lt_ofNat, OfNat.ofNat_ne_zero, one_ne_zero, ↓reduceDIte, ↓reduceIte]
    first
    | rfl
    | obtain ⟨hd, e⟩ := hd (Nat.le_of_ble_eq_true rfl)
      rw [e]
      rfl

end Cert.Talk

end
-- ==== Proof.Steps.lean ====
/- What each piece of the body does to what device c holds: the copy to the partner, the wait for a send slot, the wait for a
   receive slot with the sum stored, and the products' operands loaded. -/
module

public import proofs.«01_k».proof.Proof.Prog

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Whole accesses, and copies between re-shaped slots -/

theorem emb_unit_zero {s : Shape} {off : Fin s.rank → ℕ} (h : off = fun _ => 0) (inb : ∀ a, off a + s.size a ≤ s.size a) (x : s.Idx) :
    (Rect.unit (s := s) off s.size inb).emb x = x := by
  subst h
  funext a
  exact Fin.ext (by simp [Rect.emb, Rect.unit])

/-- Reading through the whole rectangle of a memref is reading the memref; so is writing. -/
theorem read_unit_zero {sp : Space} {s : Shape} {e : EltTy} (m : Memref sig .tc sp s e) {off : Fin s.rank → ℕ} (h : off = fun _ => 0)
    (inb : ∀ a, off a + s.size a ≤ s.size a) (f : m.view.ty.Contents (Elt F)) :
    (m.access (Rect.unit (s := s) off s.size inb)).read (Elt F) f = m.view.read (Elt F) f := by
  funext x
  exact congrArg (fun y => _root_.cast (congrArg (Elt F) m.view.elt_eq) (f (m.view.emb y))) (emb_unit_zero h inb x)

theorem set_unit_zero {sp : Space} {s : Shape} {e : EltTy} (m : Memref sig .tc sp s e) {off : Fin s.rank → ℕ} (h : off = fun _ => 0)
    (inb : ∀ a, off a + s.size a ≤ s.size a) : (m.access (Rect.unit (s := s) off s.size inb)).set = m.view.set := by
  ext i
  simp only [View.set, Finset.mem_map, Finset.mem_univ, true_and]
  exact ⟨fun ⟨x, hx⟩ => ⟨x, (congrArg m.view.emb (emb_unit_zero h inb x)).symm.trans hx⟩, fun ⟨x, hx⟩ => ⟨x, (congrArg m.view.emb (emb_unit_zero h inb x)).trans hx⟩⟩

theorem read_write_unit_zero {sp : Space} {s : Shape} {e : EltTy} (m : Memref sig .tc sp s e) {off : Fin s.rank → ℕ} (h : off = fun _ => 0)
    (inb : ∀ a, off a + s.size a ≤ s.size a) (f : m.view.ty.Contents (Elt F)) (w : s.Idx → Elt F e) :
    m.view.read (Elt F) ((m.access (Rect.unit (s := s) off s.size inb)).write (Elt F) f w Finset.univ) = w :=
  (read_unit_zero m h inb _).symm.trans (View.read_write_univ _ _)

/-- A copy between two pieces, both taken at another shape, moves what the pieces read. -/
theorem read_copy {sp sp' : Space} {s s' : Shape} {e : EltTy} (v : View sig .tc sp s e) (v' : View sig .tc sp' s e) (h : s'.numel = s.numel)
    (f : v.ty.Contents (Elt F)) (g : v'.ty.Contents (Elt F)) :
    v.read (Elt F) ((v.reshape s' h).write (Elt F) f ((v'.reshape s' h).read (Elt F) g) Finset.univ) = v'.read (Elt F) g := by
  funext x
  obtain ⟨y, rfl⟩ := (Shape.reshapeEquiv h).surjective x
  exact View.read_write_of_mem (v := v.reshape s' h) f _ (Finset.mem_univ y)

theorem zero2 : (![0, 0] : Fin 2 → ℕ) = fun _ => 0 := by funext a; fin_cases a <;> rfl

/-- Loading a memref whole. -/
theorem wp_load_owns {s : Shape} {e : EltTy} (c : Dev nD) (m : Memref sig .tc .vmem s e) {off : Fin s.rank → ℕ} (h : off = fun _ => 0)
    (inb : ∀ a, off a + s.size a ≤ s.size a) {hl : m.view.LoadsAt (Rect.unit (s := s) off s.size inb).toLoadRect} (X : s.Idx → Elt F e)
    (k : (s.Idx → Elt F e) → BodyP F) (Kt : PUnit → sProp 𝕄) :
    owns (c : Thread nD τ) m fullShare X
      ⊢ iprop((owns (c : Thread nD τ) m fullShare X -∗ wp frame (wpE (defs₀ (F := F)) 𝒱₀ c none) Set.univ (k X) Kt)
        -∗ wp frame (wpE (defs₀ (F := F)) 𝒱₀ c none) Set.univ (.op (.load m (Rect.unit (s := s) off s.size inb).toLoadRect hl) k) Kt) := by
  unfold owns
  iintro ⟨%f, %hf, H⟩ Hk
  iapply (wp_load_rect (defs := defs₀ (F := F)) 𝒱₀ (c : Thread nD τ) none Set.univ (S := m.view.set) (set_unit_zero m h inb).le) $$ [H]
  · iexact H
  iintro H
  rw [read_unit_zero m h inb f, hf]
  iapply Hk
  iexists f
  isplitr; · ipureintro; exact hf
  iexact H

/-- Storing a memref whole. -/
theorem wp_store_owns {s : Shape} {e : EltTy} (c : Dev nD) (m : Memref sig .tc .vmem s e) {off : Fin s.rank → ℕ} (h : off = fun _ => 0)
    (inb : ∀ a, off a + s.size a ≤ s.size a) {w : s.Idx → Elt F e} {hx : (m.access (Rect.unit (s := s) off s.size inb)).Stores Finset.univ}
    {hm : Finset.univ = Finset.univ ∨ ∀ a, (Rect.unit (s := s) off s.size inb).stride a = 1} (X : s.Idx → Elt F e)
    (k : PUnit → BodyP F) (Kt : PUnit → sProp 𝕄) :
    owns (c : Thread nD τ) m fullShare X
      ⊢ iprop((owns (c : Thread nD τ) m fullShare w -∗ wp frame (wpE (defs₀ (F := F)) 𝒱₀ c none) Set.univ (k ⟨⟩) Kt)
        -∗ wp frame (wpE (defs₀ (F := F)) 𝒱₀ c none) Set.univ (.op (.store m (Rect.unit (s := s) off s.size inb) w Finset.univ hx hm) k) Kt) := by
  unfold owns
  iintro ⟨%f, -, H⟩ Hk
  iapply (wp_store (defs := defs₀ (F := F)) 𝒱₀ (c : Thread nD τ) none Set.univ (S := m.view.set) (set_unit_zero m h inb).le) $$ [H]
  · iexact H
  iintro H
  iapply Hk
  iexists _
  isplitr
  · ipureintro; exact read_write_unit_zero m h inb f w
  iexact H

/-! ## The pieces -/

variable (D : Operands F)

theorem slotAt_intro (M : Memref sig .tc .vmem S1x1024x512 .bf16) (c : Dev nD) {X : S1x1024x512.Idx → Elt F .bf16}
    {f : Buf (Elt F) (M.view.loc (c : Thread nD τ))} (h : M.view.read (Elt F) f = X) :
    (M.view.loc (c : Thread nD τ) ↦[M.view.set]{fullShare} f : sProp 𝕄) ⊢ slotAt M c X := by
  unfold slotAt
  iintro H; iexists f
  isplitr; · ipureintro; exact h
  iexact H

/-- The copy of block n: both products are stored, the first leaves for the partner's receive slot. -/
theorem wp_sendP (K : GSem nD τ sig → ℕ) (c : Dev nD) (n : ℕ) (hn : n < 16) (W : Waits sig Unit) (v18 v20 : FVec F S1024x512 .f32)
    (h18 : k0_pay7 v18 = snd D c n) (k : BodyP F) (Kt : PUnit → sProp 𝕄) :
    iprop(cellInv ER (sched D) (K (sndCell c n)) (sndCell c n) ∗ cellInv ER (sched D) (K (rcvCell (pr c) n)) (rcvCell (pr c) n)
        ∗ slotAny (sndM n) c ∗ slotAny (stM n) c ∗ slotAny (rcvM n) (pr c) ∗ owes (c : Thread nD τ) (owedR c n) W
        ∗ dutyTok ER (sndCell c n) (n / 2) () ∗ reached ER (sndCell c n) (n / 2) ∗ dutyTok ER (rcvCell (pr c) n) 0 () ∗ reached ER (rcvCell (pr c) n) 0)
      ⊢ iprop(((cred (tallyAt (sndCell c n) () N) ∗ owes (c : Thread nD τ) (owedR c (n + 1)) W ∗ slotAt (stM n) c (k0_pay8 v20))
          -∗ wp frame (wpE (defs₀ (F := F)) 𝒱₀ c none) Set.univ k Kt)
        -∗ wp frame (wpE (defs₀ (F := F)) 𝒱₀ c none) Set.univ (sendP n (pr c) v18 v20 k) Kt) := by
  unfold sendP slotAny
  iintro ⟨#HIs, #HIr, ⟨%fs, Hs⟩, ⟨%ft, Ht⟩, ⟨%fr, Hr⟩, HO, HtS, #HrS, HtR, #HrR⟩ Hk
  iapply (wp_load_rect (defs := defs₀ (F := F)) 𝒱₀ (c : Thread nD τ) none Set.univ (S := (sndM n).view.set) (Finset.Subset.refl _)) $$ [Hs]
  · iexact Hs
  iintro Hs
  iapply (wp_store (defs := defs₀ (F := F)) 𝒱₀ (c : Thread nD τ) none Set.univ (S := (sndM n).view.set) (Finset.Subset.refl _)) $$ [Hs]
  · iexact Hs
  iintro Hs
  iapply (wp_load_rect (defs := defs₀ (F := F)) 𝒱₀ (c : Thread nD τ) none Set.univ (S := (stM n).view.set) (Finset.Subset.refl _)) $$ [Ht]
  · iexact Ht
  iintro Ht
  iapply (wp_store (defs := defs₀ (F := F)) 𝒱₀ (c : Thread nD τ) none Set.univ (S := (stM n).view.set) (Finset.Subset.refl _)) $$ [Ht]
  · iexact Ht
  iintro Ht
  iapply (Rounds.wp_send_pointsTo 𝒱₀ ER (sched D) (c : Thread nD τ) none (c' := (pr c : Thread nD τ)) (src := sndQ n) (dst := rcvQ n)
      (sS := .dma (sndS n)) (sem := .dma (rcvS n)) (q := fullShare) (fs := ((sndM n).view).write (Elt F) fs (k0_pay7 v18) Finset.univ)
      (κ₁ := K (sndCell c n)) (κ₂ := K (rcvCell (pr c) n)) (r₁ := n / 2) (r₂ := 0) (d₁ := ()) (d₂ := ()) (fd := fr)
      (mem_duties D c _ _ (by rw [rounds_snd]; omega)) (mem_duties D (pr c) _ _ (by rw [rounds_rcv]; omega))
      () () N rfl (amt_snd n) (amt_rcv n) (owedR c (n + 1)) (owedR_step c n hn) (W := W)
      (by show _ ⊢ pay D c (n / 2) (.dma (sndS n))
          rw [pay_snd]; unfold slotAny
          rw [show (sndQ n).view.set = (sndM n).view.set from View.set_reshape _ _]
          iintro H; iexists _; iexact H)
      (by show _ ⊢ pay D (pr c) 0 (.dma (rcvS n))
          rw [pay_rcv D _ _ _ hn, show (rcvQ n).view.set = (rcvM n).view.set from View.set_reshape _ _, pr_pr]
          refine slotAt_intro _ _ ?_
          exact (read_copy (rcvM n).view (sndM n).view _ _ _).trans ((View.read_write_univ _ _).trans h18))) $$ [Hs Hr HO HtS HtR]
  · isplitr; · iexact HIs
    isplitr; · iexact HIr
    isplitl [Hs]
    · rw [show (sndQ n).view.set = (sndM n).view.set from View.set_reshape _ _]; iexact Hs
    isplitl [Hr]
    · rw [show (rcvQ n).view.set = (rcvM n).view.set from View.set_reshape _ _]; iexact Hr
    isplitl [HO]; · iexact HO
    isplitl [HtS]; · iexact HtS
    isplitr; · iexact HrS
    isplitl [HtR]; · iexact HtR
    iexact HrR
  iintro ⟨HcS, HO⟩
  iapply Hk
  isplitl [HcS]; · iexact HcS
  isplitl [HO]; · iexact HO
  iapply (slotAt_intro (stM n) c (View.read_write_univ ft (k0_pay8 v20))) $$ Ht

/-- The wait for a send slot: round r of its cell ends, the slot comes back. -/
theorem wp_waitSndP (K : GSem nD τ sig → ℕ) (c : Dev nD) (n r : ℕ) (hr : r < 8) (W : Waits sig Unit) (k : BodyP F) (Kt : PUnit → sProp 𝕄) :
    iprop(cellInv ER (sched D) (K (sndCell c n)) (sndCell c n) ∗ cred (tallyAt (sndCell c n) () N) ∗ owes (c : Thread nD τ) (owedR c n) W
        ∗ levAts L lv ∗ atPos ER (sndCell c n) r ∅ 0)
      ⊢ iprop(((owes (c : Thread nD τ) (owedR c n) (insert (.dma (sndS n), ()) W) ∗ atPos ER (sndCell c n) (r + 1) ∅ 0
            ∗ reached ER (sndCell c n) (r + 1) ∗ slotAny (sndM n) c)
          -∗ wp frame (wpE (defs₀ (F := F)) 𝒱₀ c none) Set.univ k Kt)
        -∗ wp frame (wpE (defs₀ (F := F)) 𝒱₀ c none) Set.univ (waitSndP n k) Kt) := by
  unfold waitSndP
  iintro ⟨#HI, Hc, HO, #Hlev, Hat⟩ Hk
  iapply (Rounds.wp_wait_rest_token 𝒱₀ ER (sched D) (c : Thread nD τ) none (κ := K (sndCell c n))
      (wpE_waitDma2_eq (src := rcvQ (n - 2)) (dst := sndQ n) 𝒱₀ (c : Thread nD τ) none Set.univ) (Set.mem_univ _) () (O := owedR c n) (W := W) (R := r) (m := 0) (T := ∅)
      ((Nat.zero_add _).trans ((expect_of D c _ r (by rw [rounds_snd]; exact hr)).trans (amt_snd n)).symm)) $$ [Hc HO Hat]
  · isplitr; · iexact HI
    isplitl [Hc]; · iexact Hc
    isplitl [HO]; · iexact HO
    isplitr
    · iapply (mayWait c (.dma (sndS n)) n (by have := lt2 n; simp only [lvS]; rw [if_neg (by omega)]; omega)); iexact Hlev
    iexact Hat
  iintro ⟨HO, Hat, Hr, Hpay⟩
  ihave Hs := (Entails.of_eq ((rest_of D c _ r (by rw [rounds_snd]; exact hr)).trans (pay_snd D c n r))) $$ Hpay
  iapply Hk
  isplitl [HO]; · iexact HO
  isplitl [Hat]; · iexact Hat
  isplitl [Hr]; · iexact Hr
  iexact Hs

/-- The wait for the partner's block n − 2: it is added to the stashed one, and the sum stored whole. -/
theorem wp_recvP (K : GSem nD τ sig → ℕ) (c : Dev nD) (n : ℕ) (h2 : 2 ≤ n) (hn : n < 18) (W : Waits sig Unit)
    (arg4 : Memref sig .tc .vmem S1024x512 .f32) (X : S1024x512.Idx → Elt F .f32) (Kt : PUnit → sProp 𝕄) :
    iprop(cellInv ER (sched D) (K (rcvCell c (n - 2))) (rcvCell c (n - 2)) ∗ cred (tallyAt (rcvCell c (n - 2)) () N)
        ∗ owes (c : Thread nD τ) (owedR c (n + 1)) W ∗ levAts L lv ∗ atPos ER (rcvCell c (n - 2)) 0 ∅ 0
        ∗ slotAt (stM (n - 2)) c (sth D c (n - 2)) ∗ owns (c : Thread nD τ) arg4 fullShare X)
      ⊢ iprop(((owes (c : Thread nD τ) (owedR c (n + 1)) (insert (.dma (rcvS (n - 2)), ()) W) ∗ atPos ER (rcvCell c (n - 2)) 1 ∅ 0
            ∗ slotAny (rcvM (n - 2)) c ∗ slotAt (stM (n - 2)) c (sth D c (n - 2)) ∗ owns (c : Thread nD τ) arg4 fullShare (outv D c (n - 2)))
          -∗ Kt ⟨⟩)
        -∗ wp frame (wpE (defs₀ (F := F)) 𝒱₀ c none) Set.univ (recvP n arg4) Kt) := by
  unfold recvP
  iintro ⟨#HI, Hc, HO, #Hlev, Hat, Ht, Ha⟩ Hk
  iapply (Rounds.wp_wait_rest_token 𝒱₀ ER (sched D) (c : Thread nD τ) none (κ := K (rcvCell c (n - 2)))
      (wpE_waitDma2_eq (src := sndQ 0) (dst := rcvQ (n - 2)) 𝒱₀ (c : Thread nD τ) none Set.univ) (Set.mem_univ _) () (O := owedR c (n + 1)) (W := W) (R := 0) (m := 0) (T := ∅)
      ((Nat.zero_add _).trans ((expect_of D c _ 0 (by rw [rounds_rcv]; omega)).trans (amt_rcv (n - 2))).symm)) $$ [Hc HO Hat]
  · isplitr; · iexact HI
    isplitl [Hc]; · iexact Hc
    isplitl [HO]; · iexact HO
    isplitr
    · iapply (mayWait c (.dma (rcvS (n - 2))) (n + 1) (by
        have e : lvS (.dma (rcvS (n - 2))) = n - 2 + 2 := lv_rcv c (n - 2) (by omega)
        omega)); iexact Hlev
    iexact Hat
  iintro ⟨HO, Hat, -, Hpay⟩
  ihave Hr := (Entails.of_eq ((rest_of D c _ 0 (by rw [rounds_rcv]; omega)).trans (pay_rcv D c (n - 2) 0 (by omega)))) $$ Hpay
  unfold slotAt
  icases Hr with ⟨%fr, %hr, Hr⟩
  icases Ht with ⟨%ft, %ht, Ht⟩
  iapply (wp_load_rect (defs := defs₀ (F := F)) 𝒱₀ (c : Thread nD τ) none Set.univ (S := (stM (n - 2)).view.set) (Finset.Subset.refl _)) $$ [Ht]
  · iexact Ht
  iintro Ht
  iapply (wp_load_rect (defs := defs₀ (F := F)) 𝒱₀ (c : Thread nD τ) none Set.univ (S := (rcvM (n - 2)).view.set) (Finset.Subset.refl _)) $$ [Hr]
  · iexact Hr
  iintro Hr
  iapply (wp_load_owns c arg4 zero2 inb_S1024x512_S1024x512_0_0 X) $$ [Ha]
  · iexact Ha
  iintro Ha
  iapply (wp_store_owns c arg4 zero2 inb_S1024x512_S1024x512_0_0 X) $$ [Ha]
  · iexact Ha
  iintro Ha
  rw [wp_ret]
  imodintro
  iapply Hk
  isplitl [HO]; · iexact HO
  isplitl [Hat]; · iexact Hat
  isplitl [Hr]; · unfold slotAny; iexists _; iexact Hr
  isplitl [Ht]
  · iexists _
    isplitr; · ipureintro; exact ht
    iexact Ht
  have e : k0_pay42 ((stM (n - 2)).view.read (Elt F) ft) ((rcvM (n - 2)).view.read (Elt F) fr) = outv D c (n - 2) := by
    rw [ht, hr]; rfl
  iapply (Entails.of_eq (congrArg (owns (c : Thread nD τ) arg4 fullShare) e)) $$ Ha

end Cert.Talk

end
-- ==== Proof.Entry.lean ====
/- Grid point 0's entry: the partners meet at the barrier, handing each other their receive buffers, and each device copies
   the row half it keeps and the row half it multiplies for its partner out of the left operand. -/
module

public import proofs.«01_k».proof.Proof.Steps

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (D : Operands F)

/-- One local copy of a row half into a whole buffer, and its wait: round r of the local cell. -/
theorem wp_fetch (K : GSem nD τ sig → ℕ) (c : Dev nD) (r n : ℕ) (hr : r < 2) (W : Waits sig Unit)
    (M : Memref sig .tc .hbm S1024x4096 .bf16) (B : Memref sig .tc .vmem S1024x4096 .bf16) (hM : M.view.WordExact) (hB : B.view.WordExact)
    (hN : B.view.dmaCredit = Nl) (hsem : DmaTarget.Typed (nD := nD) .hbm (.dma locS) (.here (p := (Proc.tc : Proc τ)) B))
    (f : Buf (Elt F) (M.view.loc (c : Thread nD τ))) (g : Buf (Elt F) (B.view.loc (c : Thread nD τ)))
    (hpay : iprop((B.view.loc (c : Thread nD τ) ↦[B.view.set]{fullShare} (B.view.write (Elt F) g (M.view.read (Elt F) f) Finset.univ))
      ∗ (M.view.loc (c : Thread nD τ) ↦[M.view.set]{fullShare} f)) ⊢ (pay D c r (.dma locS) : sProp 𝕄))
    (k : BodyP F) (Kt : PUnit → sProp 𝕄) :
    iprop(cellInv ER (sched D) (K (locCell c)) (locCell c) ∗ (M.view.loc (c : Thread nD τ) ↦[M.view.set]{fullShare} f)
        ∗ (B.view.loc (c : Thread nD τ) ↦[B.view.set]{fullShare} g) ∗ dutyTok ER (locCell c) r () ∗ reached ER (locCell c) r
        ∗ owes (c : Thread nD τ) (owedR c n) W ∗ levAts L lv ∗ atPos ER (locCell c) r ∅ 0)
      ⊢ iprop(((owes (c : Thread nD τ) (owedR c n) (insert (.dma locS, ()) W) ∗ atPos ER (locCell c) (r + 1) ∅ 0
            ∗ reached ER (locCell c) (r + 1) ∗ pay D c r (.dma locS))
          -∗ wp frame (wpE (defs₀ (F := F)) 𝒱₀ c none) Set.univ k Kt)
        -∗ wp frame (wpE (defs₀ (F := F)) 𝒱₀ c none) Set.univ
          (.op (.enqueueDma M (.here B) (.dma locS) hM hB hsem) fun _ => .op (.waitDma2 locS M B hM hB) fun _ => k) Kt) := by
  iintro ⟨#HI, HM, HB, Ht, #Hre, HO, #Hlev, Hat⟩ Hk
  iapply (Rounds.wp_copy_pointsTo 𝒱₀ ER (sched D) (c : Thread nD τ) none (src := M) (dst := B) (sem := .dma locS) (q := fullShare)
      (fs := f) (fd := g) (r := r) (d := ()) (κ := K (locCell c))
      (mem_duties D c _ r (by rw [rounds_loc]; exact hr)) () Nl hN amt_loc hpay) $$ [HM HB Ht]
  · isplitr; · iexact HI
    isplitl [HM]; · iexact HM
    isplitl [HB]; · iexact HB
    isplitl [Ht]; · iexact Ht
    iexact Hre
  iintro Hc
  iapply (Rounds.wp_wait_rest_token 𝒱₀ ER (sched D) (c : Thread nD τ) none (κ := K (locCell c))
      (wpE_waitDma2_eq (src := M) (dst := B) 𝒱₀ (c : Thread nD τ) none Set.univ) (Set.mem_univ _) () (O := owedR c n) (W := W) (R := r) (m := 0) (T := ∅)
      ((Nat.zero_add _).trans (hN.trans ((expect_of D c _ r (by rw [rounds_loc]; exact hr)).trans amt_loc).symm))) $$ [Hc HO Hat]
  · isplitr; · iexact HI
    isplitl [Hc]; · rw [hN]; iexact Hc
    isplitl [HO]; · iexact HO
    isplitr
    · iapply (mayWait c (.dma locS) n (by simp only [lvS]; rw [if_neg (by decide)]; omega)); iexact Hlev
    iexact Hat
  iintro ⟨HO, Hat, Hr, Hpay⟩
  ihave Hp := (Entails.of_eq (rest_of D c _ r (by rw [rounds_loc]; exact hr))) $$ Hpay
  iapply Hk
  isplitl [HO]; · iexact HO
  isplitl [Hat]; · iexact Hat
  isplitl [Hr]; · iexact Hr
  iexact Hp

/-- What the entry takes, and what it leaves. -/
def entryPre (K : GSem nD τ sig → ℕ) (c : Dev nD) : sProp 𝕄 :=
  iprop(cellInv ER (sched D) (K (barCell c)) (barCell c) ∗ cellInv ER (sched D) (K (barCell (pr c))) (barCell (pr c))
    ∗ cellInv ER (sched D) (K (locCell c)) (locCell c)
    ∗ atPos ER (barCell c) 0 ∅ 0 ∗ cred (tallyAt (barCell c) () 1) ∗ reached ER (barCell (pr c)) 0 ∗ dutyTok ER (barCell (pr c)) 0 ()
    ∗ (bigSep (Finset.range 16) fun j => slotAny (rcvM j) c) ∗ (bigSep (Finset.range 16) fun j => reached ER (rcvCell c j) 0)
    ∗ atPos ER (locCell c) 0 ∅ 0 ∗ reached ER (locCell c) 0 ∗ dutyTok ER (locCell c) 0 () ∗ dutyTok ER (locCell c) 1 ()
    ∗ (∃ f, pt c cc0_scratch0 f) ∗ (∃ f, pt c cc0_scratch1 f) ∗ pt c main_v2 (D.a c) ∗ levAts L lv)
def entryPost (c : Dev nD) : sProp 𝕄 :=
  iprop(atPos ER (barCell c) 1 ∅ 0 ∗ barPay c ∗ atPos ER (locCell c) 2 ∅ 0
    ∗ pt c cc0_scratch0 (mine D c) ∗ pt c cc0_scratch1 (theirs D c) ∗ pt c main_v2 (D.a c))

theorem wp_entryP (K : GSem nD τ sig → ℕ) (c : Dev nD) (W : Waits sig Unit) (h1 : (opM1 c).view.WordExact) (h2 : (opM2 c).view.WordExact)
    (k : BodyP F) (Kt : PUnit → sProp 𝕄) :
    iprop(entryPre D K c ∗ owes (c : Thread nD τ) (owed c 0) W)
      ⊢ iprop(((entryPost D c ∗ ∃ W', owes (c : Thread nD τ) (owedR c 0) W')
          -∗ wp frame (wpE (defs₀ (F := F)) 𝒱₀ c none) Set.univ k Kt)
        -∗ wp frame (wpE (defs₀ (F := F)) 𝒱₀ c none) Set.univ (entryP (pr c) (opM1 c) (opM2 c) h1 h2 k) Kt) := by
  unfold entryP entryPre
  rw [show owed c 0 = owedR c 0 + tallyAt (barCell (pr c)) () 1 from if_pos rfl]
  iintro ⟨⟨#HIb, #HIp, #HIl, HatB, HcB, #HrP, HtP, Hslots, #Hrs, HatL, #HrL, HtL0, HtL1, ⟨%f0, H0⟩, ⟨%f1, H1⟩, Ha, #Hlev⟩, HO⟩ Hk
  iapply (Rounds.wp_signal 𝒱₀ ER (sched D) (c : Thread nD τ) none (dst := (pr c : Thread nD τ)) (sem := barrier0) (r := 0) (d := ()) (κ := K (barCell (pr c)))
      (mem_duties D (pr c) _ 0 (by decide)) rfl () (owedR c 0) rfl) $$ [HO HtP Hslots]
  · isplitr; · iexact HIp
    isplitl [HO]; · iexact HO
    isplitl [HtP]; · iexact HtP
    isplitl [Hslots]
    · rw [show (sched D).payload ((pr c : Thread nD τ), .reg barrier0) 0 () = barPay (pr c) from rfl]
      unfold barPay
      rw [pr_pr]
      isplitl [Hslots]; · iexact Hslots
      iexact Hrs
    · iexact HrP
  iintro HO
  iapply (Rounds.wp_wait_rest_token 𝒱₀ ER (sched D) (c : Thread nD τ) none (κ := K (barCell c))
      (wpE_semWait_eq 𝒱₀ (c : Thread nD τ) none Set.univ) (Set.mem_univ _) () (O := owedR c 0) (W := W) (R := 0) (m := 0) (T := ∅)
      ((Nat.zero_add 1).trans (expect_of D c (.reg barrier0) 0 (by decide)).symm)) $$ [HcB HO HatB]
  · isplitr; · iexact HIb
    isplitl [HcB]; · iexact HcB
    isplitl [HO]; · iexact HO
    isplitr; · iapply (mayWait c (.reg barrier0) 0 (by decide)); iexact Hlev
    iexact HatB
  iintro ⟨HO, HatB, -, Hpay⟩
  ihave Hp := (Entails.of_eq ((rest_of D c (.reg barrier0) 0 (by decide)).trans (show pay D c 0 (.reg barrier0) = barPay c from rfl))) $$ Hpay
  ihave Ha := (pointsTo_split_subset (ℓ := (opM1 c).view.loc (c : Thread nD τ)) (I := (opM1 c).view.set) (S := Finset.univ) (Finset.subset_univ _)).1 $$ Ha
  icases Ha with ⟨Ha1, Ha⟩
  iapply (wp_fetch D K c 0 0 (by decide) (insert (.reg barrier0, ()) W) (opM1 c) myB h1 _ rfl _ (D.a c) f0 (by
    rw [pay_loc0, show myB.view.set = Finset.univ from View.set_whole _]
    rw [show myB.view.write (Elt F) f0 ((opM1 c).view.read (Elt F) (D.a c)) Finset.univ = mine D c from View.write_whole_univ _ _ _])) $$ [Ha1 H0 HtL0 HO HatL]
  · isplitr; · iexact HIl
    isplitl [Ha1]; · iexact Ha1
    isplitl [H0]; · rw [show myB.view.set = Finset.univ from View.set_whole _]; iexact H0
    isplitl [HtL0]; · iexact HtL0
    isplitr; · iexact HrL
    isplitl [HO]; · iexact HO
    isplitr; · iexact Hlev
    iexact HatL
  iintro ⟨HO, HatL, #HrL1, Hpay⟩
  ihave Hq := (Entails.of_eq (pay_loc0 D c)) $$ Hpay
  icases Hq with ⟨H0, Ha1⟩
  ihave Ha := (pointsTo_split_subset (ℓ := (opM1 c).view.loc (c : Thread nD τ)) (I := (opM1 c).view.set) (S := Finset.univ) (Finset.subset_univ _)).2 $$ [Ha1 Ha]
  · isplitl [Ha1]; · iexact Ha1
    iexact Ha
  ihave Ha := (pointsTo_split_subset (ℓ := (opM2 c).view.loc (c : Thread nD τ)) (I := (opM2 c).view.set) (S := Finset.univ) (Finset.subset_univ _)).1 $$ Ha
  icases Ha with ⟨Ha2, Ha⟩
  iapply (wp_fetch D K c 1 0 (by decide) (insert (.dma locS, ()) (insert (.reg barrier0, ()) W)) (opM2 c) peerB h2 _ rfl _ (D.a c) f1 (by
    rw [pay_loc1, show peerB.view.set = Finset.univ from View.set_whole _]
    rw [show peerB.view.write (Elt F) f1 ((opM2 c).view.read (Elt F) (D.a c)) Finset.univ = theirs D c from View.write_whole_univ _ _ _])) $$ [Ha2 H1 HtL1 HO HatL]
  · isplitr; · iexact HIl
    isplitl [Ha2]; · iexact Ha2
    isplitl [H1]; · rw [show peerB.view.set = Finset.univ from View.set_whole _]; iexact H1
    isplitl [HtL1]; · iexact HtL1
    isplitr; · iexact HrL1
    isplitl [HO]; · iexact HO
    isplitr; · iexact Hlev
    iexact HatL
  iintro ⟨HO, HatL, -, Hpay⟩
  ihave Hq := (Entails.of_eq (pay_loc1 D c)) $$ Hpay
  icases Hq with ⟨H1, Ha2⟩
  ihave Ha := (pointsTo_split_subset (ℓ := (opM2 c).view.loc (c : Thread nD τ)) (I := (opM2 c).view.set) (S := Finset.univ) (Finset.subset_univ _)).2 $$ [Ha2 Ha]
  · isplitl [Ha2]; · iexact Ha2
    iexact Ha
  iapply Hk
  isplitr [HO]
  · unfold entryPost
    isplitl [HatB]; · iexact HatB
    isplitl [Hp]; · iexact Hp
    isplitl [HatL]; · iexact HatL
    isplitl [H0]; · iexact H0
    isplitl [H1]; · iexact H1
    iexact Ha
  iexists _; iexact HO

end Cert.Talk

end
-- ==== Proof.Point.lean ====
/- What device c holds between grid points, and one grid point taken from one such state to the next: point n sends block n
   (n < 16) and receives the partner's block n − 2 (2 ≤ n). -/
module

public import proofs.«01_k».proof.Proof.Entry
public import Idealize.SL.BI.BigOpNat

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (D : Operands F)

/-! ## The cells' invariants -/

/-- Every device's barrier cell; its nineteen DMA cells, numbered from the first send semaphore. -/
def barEmb : Dev nD ↪ GSem nD τ sig := ⟨fun c => barCell c, fun _ _ h => congrArg (fun g : GSem nD τ sig => g.1.1) h⟩
def osem : Fin 19 → SemLoc sig := fun k => .dma ⟨4 + k.val, by have := k.isLt; show _ < 23; omega⟩
theorem osem_inj : Function.Injective osem := by decide
def scEmb : Dev nD × Fin 19 ↪ GSem nD τ sig :=
  ⟨fun ck => ((ck.1 : Thread nD τ), osem ck.2), fun _ _ h => Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ barCells ∪ scCells := Finset.mem_union_left _ (Finset.mem_map_of_mem barEmb (Finset.mem_univ c))
theorem snd_mem (c : Dev nD) (n : ℕ) : sndCell c n ∈ barCells ∪ scCells :=
  Finset.mem_union_right _ (Finset.mem_map_of_mem scEmb (Finset.mem_univ (c, (⟨n % 2, by have := lt2 n; omega⟩ : Fin 19))))
theorem rcv_mem (c : Dev nD) (n : ℕ) : rcvCell c n ∈ barCells ∪ scCells := by
  have e : rcvCell c n = scEmb (c, (⟨2 + n % 16, by have := lt16 n; omega⟩ : Fin 19)) := by
    refine Prod.ext rfl (congrArg SemLoc.dma (Fin.ext ?_))
    show 6 + n % 16 = 4 + (2 + n % 16); omega
  rw [e]; exact Finset.mem_union_right _ (Finset.mem_map_of_mem scEmb (Finset.mem_univ _))
theorem loc_mem (c : Dev nD) : locCell c ∈ barCells ∪ scCells := Finset.mem_union_right _ (Finset.mem_map_of_mem scEmb (Finset.mem_univ (c, (18 : Fin 19))))

/-- All the invariants, under one map of names. -/
def recs (K : GSem nD τ sig → ℕ) : sProp 𝕄 := bigSep (barCells ∪ scCells) fun g => cellInv ER (sched D) (K g) g
instance recs_persistent (K : GSem nD τ sig → ℕ) : BI.Persistent (recs D K) := by unfold recs; infer_instance
theorem inv_at (K : GSem nD τ sig → ℕ) {g : GSem nD τ sig} (hg : g ∈ barCells ∪ scCells) : recs D K ⊢ cellInv ER (sched D) (K g) g := bigSep_elim hg

/-! ## The states -/

theorem sndS_add2 (n : ℕ) : sndS (n + 2) = sndS n := Fin.ext (by show 4 + (n + 2) % 2 = 4 + n % 2; omega)

section State

variable (c : Dev nD)

/-- The send slot n mod 2 free, r copies out of it done; or copy r out of it under way. -/
def sfree (n r : ℕ) : sProp 𝕄 := iprop(atPos ER (sndCell c n) r ∅ 0 ∗ reached ER (sndCell c n) r ∗ slotAny (sndM n) c)
def sflight (n r : ℕ) : sProp 𝕄 := iprop(atPos ER (sndCell c n) r ∅ 0 ∗ cred (tallyAt (sndCell c n) () N))
/-- Before point n: the send slot it uses. -/
def sndSt (n : ℕ) : sProp 𝕄 := if n < 2 then sfree c n 0 else if n < 18 then sflight c n ((n - 2) / 2) else sfree c n 8
/-- Before point n: the stash slot it fills, holding what it was last filled with, at point n − 3. -/
def stSt (n : ℕ) : sProp 𝕄 := if 3 ≤ n ∧ n < 19 then slotAt (stM n) c (sth D c (n - 3)) else slotAny (stM n) c
/-- The copies not yet sent: for each, the two duties it pays and the partner's slot it fills. -/
def future (n : ℕ) : sProp 𝕄 :=
  bigSep (Finset.Ico n 16) fun j => iprop((dutyTok ER (rcvCell (pr c) j) 0 () ∗ dutyTok ER (sndCell c j) (j / 2) ()) ∗ slotAny (rcvM j) (pr c))
/-- The partner's copies not yet received, and those received. -/
def unrecv (n : ℕ) : sProp 𝕄 := bigSep (Finset.Ico n 16) fun j => iprop(atPos ER (rcvCell c j) 0 ∅ 0 ∗ cred (tallyAt (rcvCell c j) () N))
def recvd (n : ℕ) : sProp 𝕄 := bigSep (Finset.range n) fun j => iprop(atPos ER (rcvCell c j) 1 ∅ 0 ∗ slotAny (rcvM j) c)

/-- The exchange before point n. -/
def St (n : ℕ) : sProp 𝕄 :=
  iprop(sndSt c n ∗ sndSt c (n + 1) ∗ stSt D c n ∗ stSt D c (n + 1) ∗ stSt D c (n + 2) ∗ future c n ∗ unrecv c (n - 2) ∗ recvd c (n - 2))

/-- What is known throughout: the invariants, the levels, the partner's receive cells in round 0. -/
def pers (K : GSem nD τ sig → ℕ) : sProp 𝕄 :=
  iprop(recs D K ∗ levAts L lv ∗ bigSep (Finset.range 16) fun j => reached ER (rcvCell (pr c) j) 0)
instance pers_persistent (K : GSem nD τ sig → ℕ) : BI.Persistent (pers D c K) := by unfold pers; infer_instance

theorem slotAny_congr {M M' : Memref sig .tc .vmem S1x1024x512 .bf16} (h : M = M') : (slotAny (F := F) M c) = slotAny M' c := by rw [h]

/-! ## The pieces between the states -/

/-- Block n is sent: its send slot is left under way, its stash slot holding the stashed product. -/
theorem wp_sendS (K : GSem nD τ sig → ℕ) (n : ℕ) (hn : n < 16) (W : Waits sig Unit) (k : BodyP F) (Kt : PUnit → sProp 𝕄) :
    iprop(pers D c K ∗ sfree c n (n / 2) ∗ stSt D c n ∗ future c n ∗ owes (c : Thread nD τ) (owedR c n) W)
      ⊢ iprop(((sndSt c (n + 2) ∗ stSt D c (n + 3) ∗ future c (n + 1) ∗ owes (c : Thread nD τ) (owedR c (n + 1)) W)
          -∗ wp frame (wpE (defs₀ (F := F)) 𝒱₀ c none) Set.univ k Kt)
        -∗ wp frame (wpE (defs₀ (F := F)) 𝒱₀ c none) Set.univ
          (sendP n (pr c) (k0_pay36 (wblk D c n) (theirs D c)) (k0_pay37 (wblk D c n) (mine D c)) k) Kt) := by
  have hst : stSt D c n ⊢ slotAny (stM n) c := by
    unfold stSt; split
    · exact slotAt_any _ _ _
    · exact Entails.rfl
  have hf : (future c n : sProp 𝕄) = iprop(((dutyTok ER (rcvCell (pr c) n) 0 () ∗ dutyTok ER (sndCell c n) (n / 2) ()) ∗ slotAny (rcvM n) (pr c)) ∗ future c (n + 1)) := by
    unfold future; exact bigSep_Ico_succ_bot hn _
  have hs : (sndSt c (n + 2) : sProp 𝕄) = sflight c n (n / 2) := by
    unfold sndSt; rw [if_neg (by omega), if_pos (by omega), Nat.add_sub_cancel]
    unfold sflight sndCell; rw [sndS_add2]
  have ht : stSt D c (n + 3) = slotAt (stM n) c (sth D c n) := by
    unfold stSt; rw [if_pos (by omega), Nat.add_sub_cancel, stM_congr (show (n + 3) % 3 = n % 3 by omega)]
  have hre : (bigSep (Finset.range 16) fun j => (reached ER (rcvCell (pr c) j) 0 : sProp 𝕄)) ⊢ reached ER (rcvCell (pr c) n) 0 :=
    bigSep_elim (Finset.mem_range.mpr hn)
  rw [hs, ht, hf]
  unfold sfree sflight pers
  iintro ⟨⟨#HI, -, #Hrs⟩, ⟨Hat, #Hre, Hs⟩, Ht, ⟨⟨⟨HtR, HtS⟩, Hr⟩, Hf⟩, HO⟩ Hk
  iapply (wp_sendP D K c n hn W _ _ rfl) $$ [Hs Ht Hr HO HtS HtR]
  · isplitr; · iapply (inv_at D K (snd_mem c n)); iexact HI
    isplitr; · iapply (inv_at D K (rcv_mem (pr c) n)); iexact HI
    isplitl [Hs]; · iexact Hs
    isplitl [Ht]; · iapply hst; iexact Ht
    isplitl [Hr]; · iexact Hr
    isplitl [HO]; · iexact HO
    isplitl [HtS]; · iexact HtS
    isplitr; · iexact Hre
    isplitl [HtR]; · iexact HtR
    iapply hre; iexact Hrs
  iintro ⟨Hc, HO, Ht⟩
  iapply Hk
  isplitl [Hat Hc]
  · isplitl [Hat]; · iexact Hat
    iexact Hc
  isplitl [Ht]; · iexact Ht
  isplitl [Hf]; · iexact Hf
  iexact HO

/-- The send slot of point n is waited for: free again. -/
theorem wp_waitS (K : GSem nD τ sig → ℕ) (n : ℕ) (h2 : 2 ≤ n) (hn : n < 18) (W : Waits sig Unit) (k : BodyP F) (Kt : PUnit → sProp 𝕄) :
    iprop(pers D c K ∗ sndSt c n ∗ owes (c : Thread nD τ) (owedR c n) W)
      ⊢ iprop(((sfree c n (n / 2) ∗ ∃ W', owes (c : Thread nD τ) (owedR c n) W')
          -∗ wp frame (wpE (defs₀ (F := F)) 𝒱₀ c none) Set.univ k Kt)
        -∗ wp frame (wpE (defs₀ (F := F)) 𝒱₀ c none) Set.univ (waitSndP n k) Kt) := by
  have hs : (sndSt c n : sProp 𝕄) = sflight c n ((n - 2) / 2) := by unfold sndSt; rw [if_neg (by omega), if_pos hn]
  rw [hs, show n / 2 = (n - 2) / 2 + 1 by omega]
  unfold sfree sflight pers
  iintro ⟨⟨#HI, #Hlev, -⟩, ⟨Hat, Hc⟩, HO⟩ Hk
  iapply (wp_waitSndP D K c n ((n - 2) / 2) (by omega) W) $$ [Hat Hc HO]
  · isplitr; · iapply (inv_at D K (snd_mem c n)); iexact HI
    isplitl [Hc]; · iexact Hc
    isplitl [HO]; · iexact HO
    isplitr; · iexact Hlev
    iexact Hat
  iintro ⟨HO, Hat, Hre, Hs⟩
  iapply Hk
  isplitr [HO]
  · isplitl [Hat]; · iexact Hat
    isplitl [Hre]; · iexact Hre
    iexact Hs
  iexists _; iexact HO

/-- The partner's block n − 2 is received, and output block n − 2 stored. -/
theorem wp_recvS (K : GSem nD τ sig → ℕ) (n : ℕ) (h2 : 2 ≤ n) (hn : n < 18) (W : Waits sig Unit)
    (arg4 : Memref sig .tc .vmem S1024x512 .f32) (X : S1024x512.Idx → Elt F .f32) (Kt : PUnit → sProp 𝕄) :
    iprop(pers D c K ∗ stSt D c (n + 1) ∗ unrecv c (n - 2) ∗ recvd c (n - 2) ∗ owes (c : Thread nD τ) (owedR c (n + 1)) W ∗ owns (c : Thread nD τ) arg4 fullShare X)
      ⊢ iprop(((stSt D c (n + 1) ∗ unrecv c (n - 1) ∗ recvd c (n - 1) ∗ (∃ W', owes (c : Thread nD τ) (owedR c (n + 1)) W') ∗ owns (c : Thread nD τ) arg4 fullShare (outv D c (n - 2)))
          -∗ Kt ⟨⟩)
        -∗ wp frame (wpE (defs₀ (F := F)) 𝒱₀ c none) Set.univ (recvP n arg4) Kt) := by
  have hst : stSt D c (n + 1) = slotAt (stM (n - 2)) c (sth D c (n - 2)) := by
    unfold stSt; rw [if_pos (by omega), stM_congr (show (n + 1) % 3 = (n - 2) % 3 by omega), show n + 1 - 3 = n - 2 by omega]
  have hu : (unrecv c (n - 2) : sProp 𝕄) = iprop((atPos ER (rcvCell c (n - 2)) 0 ∅ 0 ∗ cred (tallyAt (rcvCell c (n - 2)) () N)) ∗ unrecv c (n - 1)) := by
    unfold unrecv; rw [bigSep_Ico_succ_bot (by omega : n - 2 < 16), show n - 2 + 1 = n - 1 by omega]
  have hr : (recvd c (n - 1) : sProp 𝕄) = iprop((atPos ER (rcvCell c (n - 2)) 1 ∅ 0 ∗ slotAny (rcvM (n - 2)) c) ∗ recvd c (n - 2)) := by
    unfold recvd; rw [show n - 1 = n - 2 + 1 by omega, bigSep_range_succ]
  rw [hst, hu, hr]
  unfold pers
  iintro ⟨⟨#HI, #Hlev, -⟩, Ht, ⟨⟨Hat, Hc⟩, Hu⟩, Hr, HO, Ha⟩ Hk
  iapply (wp_recvP D K c n h2 hn W arg4 X) $$ [Hat Hc HO Ht Ha]
  · isplitr; · iapply (inv_at D K (rcv_mem c (n - 2))); iexact HI
    isplitl [Hc]; · iexact Hc
    isplitl [HO]; · iexact HO
    isplitr; · iexact Hlev
    isplitl [Hat]; · iexact Hat
    isplitl [Ht]; · iexact Ht
    iexact Ha
  iintro ⟨HO, Hat, Hs, Ht, Ha⟩
  iapply Hk
  isplitl [Ht]; · iexact Ht
  isplitl [Hu]; · iexact Hu
  isplitl [Hat Hs Hr]
  · isplitl [Hat Hs]
    · isplitl [Hat]; · iexact Hat
      iexact Hs
    iexact Hr
  isplitl [HO]; · iexists _; iexact HO
  iexact Ha

/-- The two row halves fetched. -/
def halves : sProp 𝕄 := iprop(pt c cc0_scratch0 (mine D c) ∗ pt c cc0_scratch1 (theirs D c))

/-- The three loads. -/
theorem wp_loadsP (arg3 : Memref sig .tc .vmem S4096x512 .f32) (n : ℕ) (k : FVec F S1024x512 .f32 → FVec F S1024x512 .f32 → BodyP F) (Kt : PUnit → sProp 𝕄) :
    iprop(owns (c : Thread nD τ) arg3 fullShare (wblk D c n) ∗ halves D c)
      ⊢ iprop(((owns (c : Thread nD τ) arg3 fullShare (wblk D c n) ∗ halves D c)
          -∗ wp frame (wpE (defs₀ (F := F)) 𝒱₀ c none) Set.univ (k (k0_pay36 (wblk D c n) (theirs D c)) (k0_pay37 (wblk D c n) (mine D c))) Kt)
        -∗ wp frame (wpE (defs₀ (F := F)) 𝒱₀ c none) Set.univ (loadsP arg3 k) Kt) := by
  unfold loadsP halves
  iintro ⟨Ha, H0, H1⟩ Hk
  iapply (wp_load_owns c arg3 zero2 inb_S4096x512_S4096x512_0_0 (wblk D c n)) $$ [Ha]
  · iexact Ha
  iintro Ha
  iapply (wp_load_rect (defs := defs₀ (F := F)) 𝒱₀ (c : Thread nD τ) none Set.univ (S := Finset.univ) (Finset.subset_univ _)) $$ [H1]
  · iexact H1
  iintro H1
  iapply (wp_load_rect (defs := defs₀ (F := F)) 𝒱₀ (c : Thread nD τ) none Set.univ (S := Finset.univ) (Finset.subset_univ _)) $$ [H0]
  · iexact H0
  iintro H0
  rw [read_unit_zero peerB zero2 inb_S1024x4096_S1024x4096_0_0 (theirs D c), read_unit_zero myB zero2 inb_S1024x4096_S1024x4096_0_0 (mine D c)]
  iapply Hk
  isplitl [Ha]; · iexact Ha
  isplitl [H0]; · iexact H0
  iexact H1

/-- What point n leaves in the output block: nothing new before point 2. -/
def outAt (n : ℕ) (X : S1024x512.Idx → Elt F .f32) : S1024x512.Idx → Elt F .f32 := if n < 2 then X else outv D c (n - 2)

/-- One grid point. -/
theorem wp_pointP (K : GSem nD τ sig → ℕ) (n : ℕ) (hn : n < 18) (W : Waits sig Unit) (arg3 : Memref sig .tc .vmem S4096x512 .f32)
    (arg4 : Memref sig .tc .vmem S1024x512 .f32) (X : S1024x512.Idx → Elt F .f32) (Kt : PUnit → sProp 𝕄) :
    iprop(pers D c K ∗ St D c n ∗ halves D c ∗ owes (c : Thread nD τ) (owedR c n) W ∗ owns (c : Thread nD τ) arg3 fullShare (wblk D c n)
        ∗ owns (c : Thread nD τ) arg4 fullShare X)
      ⊢ iprop(((St D c (n + 1) ∗ halves D c ∗ (∃ W', owes (c : Thread nD τ) (owedR c (n + 1)) W') ∗ owns (c : Thread nD τ) arg3 fullShare (wblk D c n)
            ∗ owns (c : Thread nD τ) arg4 fullShare (outAt D c n X))
          -∗ Kt ⟨⟩)
        -∗ wp frame (wpE (defs₀ (F := F)) 𝒱₀ c none) Set.univ (pointP n (pr c) arg3 arg4) Kt) := by
  unfold pointP outAt
  iintro ⟨#HP, HS, Hh, HO, Ha, Hb⟩ Hk
  iapply (wp_loadsP D c arg3 n) $$ [Ha Hh]
  · isplitl [Ha]; · iexact Ha
    iexact Hh
  iintro ⟨Ha, Hh⟩
  unfold St
  icases HS with ⟨Hs0, Hs1, Ht0, Ht1, Ht2, Hf, Hu, Hr⟩
  by_cases h2 : n < 2
  · rw [if_pos h2, if_pos h2, show n - 2 = 0 by omega, show n + 1 - 2 = 0 by omega]
    iapply (wp_sendS D c K n (by omega) W) $$ [Hs0 Ht0 Hf HO]
    · isplitr; · iexact HP
      isplitl [Hs0]
      · have e : (sndSt c n : sProp 𝕄) = sfree c n (n / 2) := by unfold sndSt; rw [if_pos h2, show n / 2 = 0 by omega]
        iapply (Entails.of_eq e); iexact Hs0
      isplitl [Ht0]; · iexact Ht0
      isplitl [Hf]; · iexact Hf
      iexact HO
    iintro ⟨Hs0, Ht0, Hf, HO⟩
    rw [wp_ret]
    imodintro
    iapply Hk
    isplitr [Hh HO Ha Hb]
    · isplitl [Hs1]; · iexact Hs1
      isplitl [Hs0]; · iexact Hs0
      isplitl [Ht1]; · iexact Ht1
      isplitl [Ht2]; · iexact Ht2
      isplitl [Ht0]; · iexact Ht0
      isplitl [Hf]; · iexact Hf
      isplitl [Hu]; · iexact Hu
      iexact Hr
    isplitl [Hh]; · iexact Hh
    isplitl [HO]; · iexists _; iexact HO
    isplitl [Ha]; · iexact Ha
    iexact Hb
  · rw [if_neg h2, if_neg h2, show n + 1 - 2 = n - 1 by omega]
    by_cases h16 : n < 16
    · rw [if_pos h16]
      iapply (wp_waitS D c K n (by omega) hn W) $$ [Hs0 HO]
      · isplitr; · iexact HP
        isplitl [Hs0]; · iexact Hs0
        iexact HO
      iintro ⟨Hs0, ⟨%W1, HO⟩⟩
      iapply (wp_sendS D c K n h16 W1) $$ [Hs0 Ht0 Hf HO]
      · isplitr; · iexact HP
        isplitl [Hs0]; · iexact Hs0
        isplitl [Ht0]; · iexact Ht0
        isplitl [Hf]; · iexact Hf
        iexact HO
      iintro ⟨Hs0, Ht0, Hf, HO⟩
      iapply (wp_recvS D c K n (by omega) hn W1 arg4 X) $$ [Ht1 Hu Hr HO Hb]
      · isplitr; · iexact HP
        isplitl [Ht1]; · iexact Ht1
        isplitl [Hu]; · iexact Hu
        isplitl [Hr]; · iexact Hr
        isplitl [HO]; · iexact HO
        iexact Hb
      iintro ⟨Ht1, Hu, Hr, HO, Hb⟩
      iapply Hk
      isplitr [Hh HO Ha Hb]
      · isplitl [Hs1]; · iexact Hs1
        isplitl [Hs0]; · iexact Hs0
        isplitl [Ht1]; · iexact Ht1
        isplitl [Ht2]; · iexact Ht2
        isplitl [Ht0]; · iexact Ht0
        isplitl [Hf]; · iexact Hf
        isplitl [Hu]; · iexact Hu
        iexact Hr
      isplitl [Hh]; · iexact Hh
      isplitl [HO]; · iexact HO
      isplitl [Ha]; · iexact Ha
      iexact Hb
    · rw [if_neg h16]
      have hs : (sfree c n (n / 2) : sProp 𝕄) ⊢ sndSt c (n + 2) := by
        unfold sndSt; rw [if_neg (by omega), if_neg (by omega), show n / 2 = 8 by omega]
        unfold sfree sndCell
        rw [sndS_add2, sndM_congr (show (n + 2) % 2 = n % 2 by omega)]
      have ht : stSt D c n ⊢ stSt D c (n + 3) := by
        unfold stSt; rw [if_pos (by omega), if_neg (by omega), stM_congr (show (n + 3) % 3 = n % 3 by omega)]
        exact slotAt_any _ _ _
      have hf : (future c n : sProp 𝕄) = future c (n + 1) := by
        unfold future; rw [Finset.Ico_eq_empty (by omega), Finset.Ico_eq_empty (by omega)]
      have ho : owedR c n = owedR c (n + 1) := (owedR_last c n (by omega)).trans (owedR_last c (n + 1) (by omega)).symm
      iapply (wp_waitS D c K n (by omega) hn W) $$ [Hs0 HO]
      · isplitr; · iexact HP
        isplitl [Hs0]; · iexact Hs0
        iexact HO
      iintro ⟨Hs0, ⟨%W1, HO⟩⟩
      ihave HO := (Entails.of_eq (congrArg (fun O => (owes (c : Thread nD τ) O W1 : sProp 𝕄)) ho)) $$ HO
      iapply (wp_recvS D c K n (by omega) hn W1 arg4 X) $$ [Ht1 Hu Hr HO Hb]
      · isplitr; · iexact HP
        isplitl [Ht1]; · iexact Ht1
        isplitl [Hu]; · iexact Hu
        isplitl [Hr]; · iexact Hr
        isplitl [HO]; · iexact HO
        iexact Hb
      iintro ⟨Ht1, Hu, Hr, HO, Hb⟩
      iapply Hk
      isplitr [Hh HO Ha Hb]
      · isplitl [Hs1]; · iexact Hs1
        isplitl [Hs0]; · iapply hs; iexact Hs0
        isplitl [Ht1]; · iexact Ht1
        isplitl [Ht2]; · iexact Ht2
        isplitl [Ht0]; · iapply ht; iexact Ht0
        isplitl [Hf]; · iapply (Entails.of_eq hf); iexact Hf
        isplitl [Hu]; · iexact Hu
        iexact Hr
      isplitl [Hh]; · iexact Hh
      isplitl [HO]; · iexact HO
      isplitl [Ha]; · iexact Ha
      iexact Hb

end State

end Cert.Talk

end
-- ==== Proof.Body.lean ====
/- The kernel body at one grid point, from the state before the point to the state after it: at point 0 the entry comes
   first, at point 17 every semaphore is closed last. -/
module

public import proofs.«01_k».proof.Proof.Prog
public import proofs.«01_k».proof.Proof.Point

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (D : Operands F)

/-- The nineteen DMA semaphores by role: two send, sixteen receive, one local. -/
theorem bigSep_osem (Φ : SemLoc sig → sProp 𝕄) :
    (bigSep Finset.univ fun k : Fin 19 => Φ (osem k))
      = iprop(Φ (.dma (sndS 0)) ∗ Φ (.dma (sndS 1)) ∗ Φ (.dma locS) ∗ bigSep (Finset.range 16) fun j => Φ (.dma (rcvS j))) := by
  let e : ℕ → Fin 19 := fun j => ⟨2 + j % 16, by have := lt16 j; omega⟩
  have hu : (Finset.univ : Finset (Fin 19)) = insert 0 (insert 1 (insert 18 ((Finset.range 16).image e))) := by decide
  have hi : Set.InjOn e (Finset.range 16) := fun a ha b hb h => by
    have ha' := Finset.mem_range.mp ha
    have hb' := Finset.mem_range.mp hb
    have h' : 2 + a % 16 = 2 + b % 16 := congrArg Fin.val h
    omega
  rw [hu, bigSep_insert (by decide), bigSep_insert (by decide), bigSep_insert (by decide), bigSep_image_of_injOn hi]
  rw [bigSep_congr (Ψ := fun j => Φ (.dma (rcvS j))) fun j hj => by
    refine congrArg Φ (congrArg SemLoc.dma (Fin.ext ?_))
    show 4 + (2 + j % 16) = 6 + j % 16; omega]
  rfl

section Body

variable (c : Dev nD)

/-- The table. -/
def table : sProp 𝕄 := pt c main_v7 (fun _ => tb c)
/-- The duties of device c's sixteen copies. -/
def toks : sProp 𝕄 := bigSep (Finset.range 16) fun j => iprop(dutyTok ER (rcvCell (pr c) j) 0 () ∗ dutyTok ER (sndCell c j) (j / 2) ())

/-- Before point 0. -/
def begun (K : GSem nD τ sig → ℕ) : sProp 𝕄 :=
  iprop(recs D K ∗ entryPre D K c ∗ sfree c 0 0 ∗ sfree c 1 0 ∗ slotAny (stM 0) c ∗ slotAny (stM 1) c ∗ slotAny (stM 2) c ∗ toks c ∗ unrecv c 0)
/-- Before point n, the entry done. -/
def going (K : GSem nD τ sig → ℕ) (n : ℕ) : sProp 𝕄 :=
  iprop(pers D c K ∗ St D c n ∗ halves D c ∗ pt c main_v2 (D.a c) ∗ atPos ER (barCell c) 1 ∅ 0 ∗ atPos ER (locCell c) 2 ∅ 0)
/-- The buffers' slots, all held. -/
def slots : sProp 𝕄 :=
  iprop((slotAny (sndM 0) c ∗ slotAny (sndM 1) c) ∗ (slotAny (stM 0) c ∗ slotAny (stM 1) c ∗ slotAny (stM 2) c) ∗ bigSep (Finset.range 16) fun j => slotAny (rcvM j) c)
/-- After the last point: every semaphore closed at zero, every buffer held. -/
def ended : sProp 𝕄 :=
  iprop((bigSep Finset.univ fun k : Fin 19 => semVal ((c : Thread nD τ), osem k) 0) ∗ semVal (barCell c) 0 ∗ slots c ∗ halves D c ∗ pt c main_v2 (D.a c))
/-- The state before point n. -/
def phase (n : ℕ) : sProp 𝕄 :=
  if n = 0 then iprop(∃ K, begun D c K) else if n < 18 then iprop(∃ K, going D c K n) else ended D c
def Φs (n : ℕ) : sProp 𝕄 := iprop(table c ∗ phase D c n)

/-- Point 0's entry. -/
theorem wp_entryS (K : GSem nD τ sig → ℕ) (W : Waits sig Unit) (h1 : (opM1 c).view.WordExact) (h2 : (opM2 c).view.WordExact)
    (k : BodyP F) (Kt : PUnit → sProp 𝕄) :
    iprop(begun D c K ∗ owes (c : Thread nD τ) (owed c 0) W)
      ⊢ iprop(((going D c K 0 ∗ ∃ W', owes (c : Thread nD τ) (owedR c 0) W')
          -∗ wp frame (wpE (defs₀ (F := F)) 𝒱₀ c none) Set.univ k Kt)
        -∗ wp frame (wpE (defs₀ (F := F)) 𝒱₀ c none) Set.univ (entryP (pr c) (opM1 c) (opM2 c) h1 h2 k) Kt) := by
  have hl : entryPre D K c ⊢ (iprop(levAts L lv ∗ entryPre D K c) : sProp 𝕄) := by
    unfold entryPre
    iintro ⟨H0, H1, H2, H3, H4, H5, H6, H7, H8, H9, H10, H11, H12, H13, H14, H15, #Hlev⟩
    isplitr; · iexact Hlev
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact Hlev
  have hf : iprop(toks c ∗ bigSep (Finset.range 16) fun j => slotAny (rcvM j) (pr c)) ⊢ (future c 0 : sProp 𝕄) := by
    unfold toks future
    rw [← bigSep_sep', Finset.range_eq_Ico]
  have hs0 : (sfree c 0 0 : sProp 𝕄) ⊢ sndSt c 0 := by unfold sndSt; rw [if_pos (by decide)]
  have hs1 : (sfree c 1 0 : sProp 𝕄) ⊢ sndSt c (0 + 1) := by unfold sndSt; rw [if_pos (by decide)]
  have ht : ∀ k, k < 3 → slotAny (stM k) c ⊢ stSt D c k := fun k hk => by unfold stSt; rw [if_neg (by omega)]
  have hr : (emp : sProp 𝕄) ⊢ recvd c 0 := by unfold recvd; rw [Finset.range_zero, bigSep_empty]; exact Entails.rfl
  unfold begun going
  iintro ⟨⟨#HR, He, Hs0, Hs1, Ht0, Ht1, Ht2, Htk, Hu⟩, HO⟩ Hk
  ihave Hl := hl $$ He
  icases Hl with ⟨#Hlev, He⟩
  iapply (wp_entryP D K c W h1 h2 k Kt) $$ [He HO]
  · isplitl [He]; · iexact He
    iexact HO
  unfold entryPost barPay
  iintro ⟨⟨HatB, ⟨Hsl, #Hre⟩, HatL, H0, H1, Ha⟩, HO⟩
  iapply Hk
  isplitr [HO]
  · isplitr
    · unfold pers
      isplitr; · iexact HR
      isplitr; · iexact Hlev
      iexact Hre
    isplitl [Hs0 Hs1 Ht0 Ht1 Ht2 Htk Hsl Hu]
    · unfold St
      isplitl [Hs0]; · iapply hs0; iexact Hs0
      isplitl [Hs1]; · iapply hs1; iexact Hs1
      isplitl [Ht0]; · iapply (ht 0 (by decide)); iexact Ht0
      isplitl [Ht1]; · iapply (ht (0 + 1) (by decide)); iexact Ht1
      isplitl [Ht2]; · iapply (ht (0 + 2) (by decide)); iexact Ht2
      isplitl [Htk Hsl]
      · iapply hf
        isplitl [Htk]; · iexact Htk
        iexact Hsl
      isplitl [Hu]; · iexact Hu
      iapply hr; iempintro
    isplitl [H0 H1]
    · unfold halves
      isplitl [H0]; · iexact H0
      iexact H1
    isplitl [Ha]; · iexact Ha
    isplitl [HatB]; · iexact HatB
    iexact HatL
  iexact HO

/-- Point n's exchange, the entry done. -/
theorem wp_goS (K : GSem nD τ sig → ℕ) (n : ℕ) (hn : n < 18) (W : Waits sig Unit) (arg3 : Memref sig .tc .vmem S4096x512 .f32)
    (arg4 : Memref sig .tc .vmem S1024x512 .f32) (X : S1024x512.Idx → Elt F .f32) (Kt : PUnit → sProp 𝕄) :
    iprop(going D c K n ∗ owes (c : Thread nD τ) (owedR c n) W ∗ owns (c : Thread nD τ) arg3 fullShare (wblk D c n)
        ∗ owns (c : Thread nD τ) arg4 fullShare X)
      ⊢ iprop(((going D c K (n + 1) ∗ (∃ W', owes (c : Thread nD τ) (owedR c (n + 1)) W') ∗ owns (c : Thread nD τ) arg3 fullShare (wblk D c n)
            ∗ owns (c : Thread nD τ) arg4 fullShare (outAt D c n X))
          -∗ |={Set.univ}=> Kt ⟨⟩)
        -∗ wp frame (wpE (defs₀ (F := F)) 𝒱₀ c none) Set.univ (pointP n (pr c) arg3 arg4) Kt) := by
  unfold going
  iintro ⟨⟨#HP, HS, Hh, Ha, HB, HL⟩, HO, H3, H4⟩ Hk
  iapply (wp_fupd _ _ _ _ _)
  iapply (wp_pointP D c K n hn W arg3 arg4 X _) $$ [HS Hh HO H3 H4]
  · isplitr; · iexact HP
    isplitl [HS]; · iexact HS
    isplitl [Hh]; · iexact Hh
    isplitl [HO]; · iexact HO
    isplitl [H3]; · iexact H3
    iexact H4
  iintro ⟨HS, Hh, HO, H3, H4⟩
  iapply Hk
  isplitl [HS Hh Ha HB HL]
  · isplitr; · iexact HP
    isplitl [HS]; · iexact HS
    isplitl [Hh]; · iexact Hh
    isplitl [Ha]; · iexact Ha
    isplitl [HB]; · iexact HB
    iexact HL
  isplitl [HO]; · iexact HO
  isplitl [H3]; · iexact H3
  iexact H4

/-- After the last point every cell has run through its rounds and closes. -/
theorem finish (K : GSem nD τ sig → ℕ) : going D c K 18 ⊢ (|={Set.univ}=> ended D c : sProp 𝕄) := by
  have hs0 : (sndSt c 18 : sProp 𝕄) ⊢ iprop(atPos ER (sndCell c 0) 8 ∅ 0 ∗ slotAny (sndM 0) c) := by
    unfold sndSt; rw [if_neg (by decide), if_neg (by decide)]; unfold sfree
    iintro ⟨H, -, Hs⟩; isplitl [H]; · iexact H
    iexact Hs
  have hs1 : (sndSt c (18 + 1) : sProp 𝕄) ⊢ iprop(atPos ER (sndCell c 1) 8 ∅ 0 ∗ slotAny (sndM 1) c) := by
    unfold sndSt; rw [if_neg (by decide), if_neg (by decide)]; unfold sfree
    iintro ⟨H, -, Hs⟩; isplitl [H]; · iexact H
    iexact Hs
  have ht : ∀ n k, n % 3 = k % 3 → stSt D c n ⊢ slotAny (stM k) c := fun n k h => by
    rw [← stM_congr h]; unfold stSt; split
    · exact slotAt_any _ _ _
    · exact Entails.rfl
  have hr : iprop(recs D K ∗ bigSep (Finset.range 16) fun j => atPos ER (rcvCell c j) 1 ∅ 0)
      ⊢ (|={Set.univ}=> bigSep (Finset.range 16) fun j => semVal (rcvCell c j) 0 : sProp 𝕄) :=
    (bigSep_with_persistent (R := recs D K) fun j _ =>
      (sep_mono_l (inv_at D K (rcv_mem c j))).trans (close D c _ _ 1 (rounds_rcv j))).trans (bigSep_fupd _ _)
  have hrv : (recvd c (18 - 2) : sProp 𝕄) = iprop((bigSep (Finset.range 16) fun j => atPos ER (rcvCell c j) 1 ∅ 0) ∗ bigSep (Finset.range 16) fun j => slotAny (rcvM j) c) := by
    unfold recvd; rw [← bigSep_sep']
  unfold going ended pers St
  rw [bigSep_osem (fun sm => semVal ((c : Thread nD τ), sm) 0), hrv]
  iintro ⟨⟨#HR, -, -⟩, ⟨Hs0, Hs1, Ht0, Ht1, Ht2, -, -, ⟨Hr, Hrs⟩⟩, Hh, Ha, HB, HL⟩
  ihave Hs0 := hs0 $$ Hs0
  icases Hs0 with ⟨H0, Hs0⟩
  ihave Hs1 := hs1 $$ Hs1
  icases Hs1 with ⟨H1, Hs1⟩
  imod (close D c (K (sndCell c 0)) (.dma (sndS 0)) 8 (rounds_snd 0)) $$ [H0] with V0
  · isplitr; · iapply (inv_at D K (snd_mem c 0)); iexact HR
    iexact H0
  imod (close D c (K (sndCell c 1)) (.dma (sndS 1)) 8 (rounds_snd 1)) $$ [H1] with V1
  · isplitr; · iapply (inv_at D K (snd_mem c 1)); iexact HR
    iexact H1
  imod (close D c (K (locCell c)) (.dma locS) 2 rounds_loc) $$ [HL] with VL
  · isplitr; · iapply (inv_at D K (loc_mem c)); iexact HR
    iexact HL
  imod (close D c (K (barCell c)) (.reg barrier0) 1 rfl) $$ [HB] with VB
  · isplitr; · iapply (inv_at D K (bar_mem c)); iexact HR
    iexact HB
  imod hr $$ [Hr] with VR
  · isplitr; · iexact HR
    iexact Hr
  imodintro
  isplitl [V0 V1 VL VR]
  · isplitl [V0]; · iexact V0
    isplitl [V1]; · iexact V1
    isplitl [VL]; · iexact VL
    iexact VR
  isplitl [VB]; · iexact VB
  isplitl [Hs0 Hs1 Ht0 Ht1 Ht2 Hrs]
  · unfold slots
    isplitl [Hs0 Hs1]
    · isplitl [Hs0]; · iexact Hs0
      iexact Hs1
    isplitl [Ht0 Ht1 Ht2]
    · isplitl [Ht0]; · iapply (ht 18 0 (by decide)); iexact Ht0
      isplitl [Ht1]; · iapply (ht (18 + 1) 1 (by decide)); iexact Ht1
      iapply (ht (18 + 2) 2 (by decide)); iexact Ht2
    iexact Hrs
  isplitl [Hh]; · iexact Hh
  iexact Ha

theorem phase_next (K : GSem nD τ sig → ℕ) (n : ℕ) (hn : n < 18) : going D c K (n + 1) ⊢ (|={Set.univ}=> phase D c (n + 1) : sProp 𝕄) := by
  unfold phase
  rw [if_neg (Nat.succ_ne_zero n)]
  by_cases h : n + 1 < 18
  · rw [if_pos h]
    iintro H; imodintro; iexists K; iexact H
  · rw [if_neg h, show n + 1 = 18 by omega]
    exact finish D c K

/-- The side condition the body assumes holds of the table's entry. -/
theorem chk (i : grid0.Coords) : k0_chk1 i (tb c) := by
  have h1 : ∀ c d : Dev nD, k0_dev1 (tb c) d < nD := by unfold k0_dev1 tb; decide
  refine ⟨fun d _ => h1 c d, fun _ => off1_inb c, fun _ _ => ?_, fun _ => off2_inb c, fun _ _ => ?_, fun d _ => h1 c d, fun d _ => h1 c d, fun d _ => h1 c d,
    fun d _ => h1 c d, fun d _ => h1 c d, fun d _ => h1 c d, fun d _ => h1 c d, fun d _ => h1 c d, fun d _ => h1 c d, fun d _ => h1 c d, fun d _ => h1 c d,
    fun d _ => h1 c d, fun d _ => h1 c d, fun d _ => h1 c d, fun d _ => h1 c d, fun d _ => h1 c d⟩
  · revert c; unfold k0_off1 tb; decide
  · revert c; unfold k0_off2 tb; decide

/-- The body at point t, the table's entry read. -/
theorem wp_checked (t : Fin grid0.N) (v : Elt F .i32) (hv : v = tb c) (W : Waits sig Unit) (arg3 : Memref sig .tc .vmem S4096x512 .f32)
    (arg4 : Memref sig .tc .vmem S1024x512 .f32) (X : S1024x512.Idx → Elt F .f32) (Kt : PUnit → sProp 𝕄) :
    iprop(phase D c t.val ∗ owes (c : Thread nD τ) (owed c t.val) W ∗ owns (c : Thread nD τ) arg3 fullShare (wblk D c t.val)
        ∗ owns (c : Thread nD τ) arg4 fullShare X)
      ⊢ iprop(((phase D c (t.val + 1) ∗ (∃ W', owes (c : Thread nD τ) (owed c (t.val + 1)) W') ∗ owns (c : Thread nD τ) arg3 fullShare (wblk D c t.val)
            ∗ owns (c : Thread nD τ) arg4 fullShare (outAt D c t.val X))
          -∗ Kt ⟨⟩)
        -∗ wp frame (wpE (defs₀ (F := F)) 𝒱₀ c none) Set.univ
          ((.op (.assume (k0_chk1 (grid0.coords t) v) (k0_chk1.dec (grid0.coords t) v)) fun hw => .op .deviceId fun d => restP t v hw.down d arg3 arg4 : BodyP F)) Kt) := by
  subst hv
  have hn : t.val < 18 := t.isLt
  have ho : owed c (t.val + 1) = owedR c (t.val + 1) := if_neg (Nat.succ_ne_zero _)
  -- the exchange, from the state with the entry done
  have hgo : ∀ (K : GSem nD τ sig → ℕ) (W' : Waits sig Unit),
      iprop(going D c K t.val ∗ owes (c : Thread nD τ) (owedR c t.val) W' ∗ owns (c : Thread nD τ) arg3 fullShare (wblk D c t.val)
        ∗ owns (c : Thread nD τ) arg4 fullShare X
        ∗ ((phase D c (t.val + 1) ∗ (∃ W', owes (c : Thread nD τ) (owedR c (t.val + 1)) W') ∗ owns (c : Thread nD τ) arg3 fullShare (wblk D c t.val)
            ∗ owns (c : Thread nD τ) arg4 fullShare (outAt D c t.val X)) -∗ Kt ⟨⟩))
      ⊢ wp frame (wpE (defs₀ (F := F)) 𝒱₀ c none) Set.univ (pointP t.val (pr c) arg3 arg4) Kt := fun K W' => by
    iintro ⟨Hg, HO, H3, H4, Hk⟩
    iapply (wp_goS D c K t.val hn W' arg3 arg4 X Kt) $$ [Hg HO H3 H4]
    · isplitl [Hg]; · iexact Hg
      isplitl [HO]; · iexact HO
      isplitl [H3]; · iexact H3
      iexact H4
    iintro ⟨Hg, HO, H3, H4⟩
    imod (phase_next D c K t.val hn) $$ [Hg] with Hg
    · iexact Hg
    imodintro
    iapply Hk
    isplitl [Hg]; · iexact Hg
    isplitl [HO]; · iexact HO
    isplitl [H3]; · iexact H3
    iexact H4
  rw [ho, wp_assume_of _ _ _ _ (d := k0_chk1.dec _ _) (chk c (grid0.coords t)), wp_deviceId]
  unfold restP
  rw [dvOf_tb]
  by_cases h0 : t.val = 0
  · rw [dif_pos h0]
    have hp : phase D c t.val ⊢ iprop(∃ K, begun D c K) := by unfold phase; rw [if_pos h0]
    have hO : owed c t.val = owed c 0 := congrArg (owed c) h0
    have hO' : owedR c 0 = owedR c t.val := congrArg (owedR c) h0.symm
    have hg : ∀ K, going D c K 0 ⊢ going D c K t.val := fun K => Entails.of_eq (congrArg (going D c K) h0.symm)
    iintro ⟨Hp, HO, H3, H4⟩ Hk
    ihave Hp := hp $$ Hp
    icases Hp with ⟨%K, Hp⟩
    ihave HO := (Entails.of_eq (congrArg (fun O => (owes (c : Thread nD τ) O W : sProp 𝕄)) hO)) $$ HO
    iapply (wp_entryS D c K W _ _) $$ [Hp HO]
    · isplitl [Hp]; · iexact Hp
      iexact HO
    iintro ⟨Hg, ⟨%W', HO⟩⟩
    ihave HO := (Entails.of_eq (congrArg (fun O => (owes (c : Thread nD τ) O W' : sProp 𝕄)) hO')) $$ HO
    ihave Hg := (hg K) $$ Hg
    iapply (hgo K W')
    isplitl [Hg]; · iexact Hg
    isplitl [HO]; · iexact HO
    isplitl [H3]; · iexact H3
    isplitl [H4]; · iexact H4
    iexact Hk
  · rw [dif_neg h0]
    have hp : phase D c t.val ⊢ iprop(∃ K, going D c K t.val) := by unfold phase; rw [if_neg h0, if_pos hn]
    have hO : owed c t.val = owedR c t.val := if_neg h0
    iintro ⟨Hp, HO, H3, H4⟩ Hk
    ihave Hp := hp $$ Hp
    icases Hp with ⟨%K, Hg⟩
    ihave HO := (Entails.of_eq (congrArg (fun O => (owes (c : Thread nD τ) O W : sProp 𝕄)) hO)) $$ HO
    iapply (hgo K W)
    isplitl [Hg]; · iexact Hg
    isplitl [HO]; · iexact HO
    isplitl [H3]; · iexact H3
    isplitl [H4]; · iexact H4
    iexact Hk

/-- The body at point t. -/
theorem wp_body (t : Fin grid0.N) (W : Waits sig Unit) (arg3 : Memref sig .tc .vmem S4096x512 .f32)
    (arg4 : Memref sig .tc .vmem S1024x512 .f32) (X : S1024x512.Idx → Elt F .f32) (Kt : PUnit → sProp 𝕄) :
    iprop(Φs D c t.val ∗ owes (c : Thread nD τ) (owed c t.val) W ∗ owns (c : Thread nD τ) arg3 fullShare (wblk D c t.val)
        ∗ owns (c : Thread nD τ) arg4 fullShare X)
      ⊢ iprop(((Φs D c (t.val + 1) ∗ (∃ W', owes (c : Thread nD τ) (owed c (t.val + 1)) W') ∗ owns (c : Thread nD τ) arg3 fullShare (wblk D c t.val)
            ∗ owns (c : Thread nD τ) arg4 fullShare (outAt D c t.val X))
          -∗ Kt ⟨⟩)
        -∗ wp frame (wpE (defs₀ (F := F)) 𝒱₀ c none) Set.univ (bodyP t arg3 arg4) Kt) := by
  unfold bodyP
  simp only [smemLoad, smemLoadElt, Prog.lift, Prog.bind_op, Prog.bind_ret, Prog.pure_eq_ret, Prog.bind_assoc]
  unfold Φs table
  iintro ⟨⟨Ht, Hp⟩, HO, H3, H4⟩ Hk
  iapply (wp_load_rect (defs := defs₀ (F := F)) 𝒱₀ (c : Thread nD τ) none Set.univ (S := Finset.univ) (Finset.subset_univ _)) $$ [Ht]
  · iexact Ht
  iintro Ht
  iapply (wp_checked D c t _ rfl W arg3 arg4 X Kt) $$ [Hp HO H3 H4]
  · isplitl [Hp]; · iexact Hp
    isplitl [HO]; · iexact HO
    isplitl [H3]; · iexact H3
    iexact H4
  iintro ⟨Hp, HO, H3, H4⟩
  iapply Hk
  isplitl [Ht Hp]
  · isplitl [Ht]; · iexact Ht
    iexact Hp
  isplitl [HO]; · iexact HO
  isplitl [H3]; · iexact H3
  iexact H4

end Body

end Cert.Talk

end
-- ==== Proof.Data.lean ====
/- The pipeline's proof data: what the windows' arrays and blocks hold, the table's contents, the windows' schedule, and the
   body obligation at every grid point. -/
module

public import proofs.«01_k».proof.Proof.Body

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-- The table on device c: its first mesh coordinate. -/
def adm (c : Dev nD) : (p : Fin 1) → (pcfgs (F := F) p).Adm := fun _ =>
  ⟨fun | ⟨0, _⟩ => (fun _ => tb c : (main_v7 : Ref sig .tc).ty.Contents (Elt F)) | ⟨_ + 1, h⟩ => absurd h (Nat.not_lt.2 (Nat.le_add_left _ _)), trivial⟩

variable (D : Operands F) (O : Dev nD → S1024x8192.Idx → Elt F .f32)

/-- The proof data: the right operand and the result array as the region finds them; what each block holds after the body. -/
def dat0 (c : Dev nD) : Dat τ (Elt F) Unit ℕ UU ℕ (cfg0 (adm (F := F) c 0)) c where
  A := fun | 0 => (D.w c : S4096x8192.Idx → Elt F .f32) | 1 => (O c : S1024x8192.Idx → Elt F .f32) | ⟨_ + 2, h⟩ => absurd h (Nat.not_lt.2 (Nat.le_add_left _ _))
  after := fun
    | 0 => fun t => (wblk D c t.val : S4096x512.Idx → Elt F .f32)
    | 1 => fun t => (outv D c (t.val - 2) : S1024x512.Idx → Elt F .f32)
    | ⟨_ + 2, h⟩ => absurd h (Nat.not_lt.2 (Nat.le_add_left _ _))
  Φ := fun t => Φs D c t.val
  q := fun _ => fullShare
  owed := fun t => owed c t.val

def dats : (p : Fin 1) → (c : Dev nD) → Dat τ (Elt F) Unit ℕ UU ℕ (Pipeline.pinD (pcfgs (F := F)) adm c p) c := fun _ c => dat0 D O c

/-! ## The schedule -/

theorem fetchOf0 : ∀ t : Fin grid0.N, Pipeline.Window.fetchOf grid0 false cc0_transform_1 t = decide (t.val < 16) := by decide
theorem flushOf1 : ∀ t : Fin grid0.N, Pipeline.Window.flushOf grid0 true cc0_transform_2 t = decide (2 ≤ t.val) := by decide
theorem index0 : ∀ t : Fin grid0.N, cc0_transform_1 (grid0.coords t) = ![0, min t.val 15] := by decide
theorem index1 : ∀ t : Fin grid0.N, cc0_transform_2 (grid0.coords t) = ![0, min (t.val - 2) 15] := by decide
theorem idle_eq : ∀ t : Fin grid0.N, idle0 1 (grid0.coords t) = decide (t.val < 2) := by decide

section Sched

variable (c : Dev nD) (t : Fin grid0.N)

theorem fetch0 : ((cfg0 (adm (F := F) c 0)).win 0).fetch t = decide (t.val < 16) := fetchOf0 t
theorem flush0 : ((cfg0 (adm (F := F) c 0)).win 0).flush t = false := rfl
theorem flush1 : ((cfg0 (adm (F := F) c 0)).win 1).flush t = decide (2 ≤ t.val) := flushOf1 t

/-- The block of the right operand point t fetches. -/
theorem block0 (x : S4096x512.Idx) : (dat0 D O c).blockOf 0 t x = wblk D c t.val x := by
  show D.w c ((((cfg0 (adm (F := F) c 0)).win 0).blk t).view.emb x) = D.w c _
  have h := congrFun (index0 t)
  refine congrArg (D.w c) (show (_ : S4096x8192.Idx) = _ from funext fun (a : Fin 2) => Fin.ext ?_)
  match a with
  | 0 =>
    show cc0_transform_1 (grid0.coords t) 0 * 4096 + 1 * (x 0).val = (x 0).val
    rw [h 0]; show 0 * 4096 + 1 * (x 0).val = _; omega
  | 1 =>
    show cc0_transform_1 (grid0.coords t) 1 * 512 + 1 * (x 1).val = 512 * min t.val 15 + (x 1).val
    rw [h 1]; show min t.val 15 * 512 + 1 * (x 1).val = _; omega

/-- What the body finds in the right operand's block at point t: column block t, or the last. -/
theorem before0 (d : S4096x512.Idx → Elt F .f32) : (dat0 D O c).before 0 t d = wblk D c t.val := by
  by_cases h : t.val < 16
  · unfold Dat.before
    rw [if_pos ((fetch0 c t).trans (decide_eq_true h))]
    exact funext fun x => block0 D O c t x
  · refine (Dat.before_of_pos (dat0 D O c) 0 t (fun e => h (by rw [e]; decide)) ((fetch0 c t).trans (decide_eq_false h)) d).trans ?_
    refine (if_neg (fun e => Bool.false_ne_true ((flush0 c _).symm.trans e))).trans ?_
    show wblk D c (t.val - 1) = wblk D c t.val
    refine funext fun x => congrArg (D.w c) (funext fun a => Fin.ext ?_)
    match a with
    | 0 => rfl
    | 1 => show 512 * min (t.val - 1) 15 + (x 1).val = 512 * min t.val 15 + (x 1).val; omega

end Sched

/-- What an idle point may leave (i: idle, f: flushing), from what it left. -/
theorem given {P A B : sProp 𝕄} (i f : Bool) (h₁ : i = true → f = false → P ⊢ A) (h₂ : (i = true → f = true) → P ⊢ B) :
    P ⊢ match (generalizing := false) i with
      | true => match (generalizing := false) f with
        | false => A
        | true => B
      | false => B :=
  match i, f, h₁, h₂ with
  | true, false, h₁, _ => h₁ rfl rfl
  | true, true, _, h₂ => h₂ fun _ => rfl
  | false, _, _, h₂ => h₂ fun h => absurd h Bool.false_ne_true

theorem owesAt_intro (c : Dev nD) (t : Fin ((cfg0 (adm (F := F) c 0)).N + 1)) :
    iprop(∃ W, owes (c : Thread nD τ) (owed c t.val) W) ⊢ ((dat0 D O c).owesAt () t : sProp 𝕄) := by
  unfold Dat.owesAt Pipeline.owesWithin Dat.bound
  rw [show (dat0 D O c).owed t = owed c t.val from rfl, show (dat0 D O c).recorded t = Set.univ from rfl]
  iintro ⟨%W, HO⟩; iexists W; isplitr; · ipureintro; exact fun _ _ => Or.inl trivial
  iexact HO
theorem owesAt_elim (c : Dev nD) (t : Fin ((cfg0 (adm (F := F) c 0)).N + 1)) :
    ((dat0 D O c).owesAt () t : sProp 𝕄) ⊢ iprop(∃ W, owes (c : Thread nD τ) (owed c t.val) W) := by
  unfold Dat.owesAt Pipeline.owesWithin
  rw [show (dat0 D O c).owed t = owed c t.val from rfl]
  iintro ⟨%W, -, HO⟩; iexists W; iexact HO

/-- The body obligation. -/
theorem body0 (c : Dev nD) : BodyObligation (dat0 D O c) defs₀ 𝒱₀ () Set.univ := fun t => by
  have hi := idle_eq t
  have hf := flush1 (F := F) c t
  rw [bigSep_W0, bigSep_W0]
  have e0 : (dat0 D O c).Φ t.castSucc = Φs D c t.val := rfl
  have e1 : (dat0 D O c).Φ t.succ = Φs D c (t.val + 1) := rfl
  rw [e0, e1]
  have hb : defs₀ (F := F) .tc (cfg0 (adm (F := F) c 0)).body ((cfg0 (adm (F := F) c 0)).bodyArgs t ((cfg0 (adm (F := F) c 0)).slots t))
      = bodyP t (spec0_0.stage ((cfg0 (adm (F := F) c 0)).slots t 0)) (spec0_1.stage ((cfg0 (adm (F := F) c 0)).slots t 1)) :=
    body_eq t _ _ _ _
  rw [hb]
  refine BI.Entails.trans ?_ (wp_mono _ _ _ (Q := fun _ => iprop(Φs D c (t.val + 1) ∗ (dat0 D O c).owesAt () t.succ
      ∗ owns (c : Thread nD τ) (spec0_0.stage ((cfg0 (adm (F := F) c 0)).slots t 0)) fullShare (wblk D c t.val)
      ∗ ∃ d1, owns (c : Thread nD τ) (spec0_1.stage ((cfg0 (adm (F := F) c 0)).slots t 1)) fullShare (outAt D c t.val ((dat0 D O c).before 1 t d1))))
    fun _ => sep_mono (BI.Entails.refl _) (sep_mono (BI.Entails.refl _) (sep_mono (BI.Entails.refl _)
      (given (A := iprop(∃ d, owns (c : Thread nD τ) (spec0_1.stage ((cfg0 (adm (F := F) c 0)).slots t 1)) fullShare ((dat0 D O c).before 1 t d)))
        (B := owns (c : Thread nD τ) (spec0_1.stage ((cfg0 (adm (F := F) c 0)).slots t 1)) fullShare (outv D c (t.val - 2)))
        ((cfg0 (adm (F := F) c 0)).idle 1 ((cfg0 (adm (F := F) c 0)).grid.coords t)) (((cfg0 (adm (F := F) c 0)).win 1).flush t)
        (fun h _ => ?_) fun h => ?_))))
  · show iprop(Φs D c t.val ∗ (dat0 D O c).owesAt () t.castSucc
        ∗ (∃ d, owns (c : Thread nD τ) (spec0_0.stage ((cfg0 (adm (F := F) c 0)).slots t 0)) fullShare ((dat0 D O c).before 0 t d))
        ∗ ∃ d, owns (c : Thread nD τ) (spec0_1.stage ((cfg0 (adm (F := F) c 0)).slots t 1)) fullShare ((dat0 D O c).before 1 t d)) ⊢ _
    iintro ⟨HΦ, HO, ⟨%d0, H0⟩, ⟨%d1, H1⟩⟩
    ihave HO := (owesAt_elim D O c t.castSucc) $$ HO
    icases HO with ⟨%W, HO⟩
    ihave H0 := (Entails.of_eq (congrArg (fun X => (owns (c : Thread nD τ) (spec0_0.stage ((cfg0 (adm (F := F) c 0)).slots t 0)) fullShare X : sProp 𝕄)) (before0 D O c t d0))) $$ H0
    iapply (wp_body D c t W _ _ ((dat0 D O c).before 1 t d1) _) $$ [HΦ HO H0 H1]
    · isplitl [HΦ]; · iexact HΦ
      isplitl [HO]; · iexact HO
      isplitl [H0]; · iexact H0
      iexact H1
    iintro ⟨HΦ, HO, H0, H1⟩
    isplitl [HΦ]; · iexact HΦ
    isplitl [HO]; · iapply (owesAt_intro D O c t.succ); iexact HO
    isplitl [H0]; · iexact H0
    iexists d1; iexact H1
  · have ht : t.val < 2 := of_decide_eq_true (hi.symm.trans h)
    exact exists_mono fun d => Entails.of_eq (congrArg (fun X => (owns (c : Thread nD τ) (spec0_1.stage ((cfg0 (adm (F := F) c 0)).slots t 1)) fullShare X : sProp 𝕄))
      (if_pos ht))
  · have ht : ¬ t.val < 2 := fun ht => by
      have := of_decide_eq_true (hf.symm.trans (h (hi.trans (decide_eq_true ht)))); omega
    exact exists_elim fun d => Entails.of_eq (congrArg (fun X => (owns (c : Thread nD τ) (spec0_1.stage ((cfg0 (adm (F := F) c 0)).slots t 1)) fullShare X : sProp 𝕄))
      (if_neg ht))

end Cert.Talk

end
-- ==== Proof.Slots.lean ====
/- The send, stash and receive buffers taken slot by slot, and their slots put together again. -/
module

public import proofs.«01_k».proof.Proof.Body

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Slot k of a buffer of 1024×512 slots is every element whose first coordinate is k. -/
theorem slot_set (K k : ℕ) (inb : ∀ a, (![k, 0, 0] : Fin 3 → ℕ) a + S1x1024x512.size a ≤ (⟨3, ![K, 1024, 512]⟩ : Shape).size a)
    (x : (⟨3, ![K, 1024, 512]⟩ : Shape).Idx) :
    x ∈ (Rect.unit (s := ⟨3, ![K, 1024, 512]⟩) ![k, 0, 0] S1x1024x512.size inb).set ↔ (x 0).val = k := by
  rw [Rect.mem_set_unit]
  constructor
  · intro h
    have h0 := h 0
    have h1 : k ≤ (x 0).val := h0.1
    have h2 : (x 0).val < k + 1 := h0.2
    omega
  · intro h a
    match a with
    | 0 => show k ≤ (x 0).val ∧ (x 0).val < k + 1; omega
    | 1 => exact ⟨Nat.zero_le _, (Nat.zero_add 1024).symm ▸ (x 1).isLt⟩
    | 2 => exact ⟨Nat.zero_le _, (Nat.zero_add 512).symm ▸ (x 2).isLt⟩

section Cover

variable {ℓ : Loc nD τ sig} {K : ℕ} (I : Fin K → Finset (Idx ℓ)) (co : Idx ℓ → Fin K) (h : ∀ j x, x ∈ I j ↔ co x = j)

include h in
theorem cover_disjoint (j j' : Fin K) (hj : j ≠ j') : Disjoint (I j) (I j') :=
  Finset.disjoint_left.mpr fun x hx hx' => hj (((h j x).mp hx).symm.trans ((h j' x).mp hx'))
include h in
theorem cover_univ : Finset.univ.biUnion I = Finset.univ := by
  ext x
  simp only [Finset.mem_biUnion, Finset.mem_univ, true_and, iff_true]
  exact ⟨co x, (h _ x).mpr rfl⟩

include h in
/-- Pieces that one coordinate tells apart: a buffer held is its pieces held, -/
theorem split_slots :
    (iprop(∃ f : Buf (Elt F) ℓ, ℓ ↦{fullShare} f) : sProp 𝕄) ⊢ bigSep Finset.univ fun j => iprop(∃ f : Buf (Elt F) ℓ, ℓ ↦[I j]{fullShare} f) := by
  iintro ⟨%f, H⟩
  ihave H := (Entails.of_eq (Ring.pointsTo_blocks I (cover_disjoint I co h) (cover_univ I co h) f)) $$ H
  have hm : ∀ j, (ℓ ↦[I j]{fullShare} f : sProp 𝕄) ⊢ iprop(∃ f : Buf (Elt F) ℓ, ℓ ↦[I j]{fullShare} f) := fun j => by
    iintro H; iexists f; iexact H
  iapply (show (bigSep Finset.univ fun j => ℓ ↦[I j]{fullShare} f : sProp 𝕄)
    ⊢ bigSep Finset.univ fun j => iprop(∃ f : Buf (Elt F) ℓ, ℓ ↦[I j]{fullShare} f) from bigSep_mono fun j _ => hm j)
  iexact H

include h in
/-- and the pieces held are the buffer held. -/
theorem join_slots :
    (bigSep Finset.univ fun j => iprop(∃ f : Buf (Elt F) ℓ, ℓ ↦[I j]{fullShare} f)) ⊢ (iprop(∃ f : Buf (Elt F) ℓ, ℓ ↦{fullShare} f) : sProp 𝕄) :=
  Ring.pointsTo_blocks_join_exists I (cover_disjoint I co h) (cover_univ I co h) fun _ => Classical.arbitrary _

end Cover

/-- A buffer of device c at contents not chosen. -/
abbrev ptAny (c : Dev nD) (b : Ref sig .tc) : sProp 𝕄 := iprop(∃ f, pt (F := F) c b f)

variable (c : Dev nD)

theorem snd_mem_set (j : Fin 2) (x : S2x1024x512.Idx) : x ∈ (sndM j.val).view.set ↔ (⟨(x 0).val, (x 0).isLt⟩ : Fin 2) = j := by
  have e : (sndM j.val).view.set = (rect2 (j.val % 2) (lt2 j)).set := (View.set_slice _ _).trans (by rw [show (Memref.whole cc0_scratch2 : Memref sig .tc .vmem S2x1024x512 .bf16).view.emb = Function.Embedding.refl _ from rfl, Finset.map_refl])
  rw [e]
  refine (slot_set 2 (j.val % 2) _ x).trans ?_
  rw [Nat.mod_eq_of_lt j.isLt]
  exact ⟨fun h => Fin.ext h, fun h => congrArg Fin.val h⟩
theorem st_mem_set (j : Fin 3) (x : S3x1024x512.Idx) : x ∈ (stM j.val).view.set ↔ (⟨(x 0).val, (x 0).isLt⟩ : Fin 3) = j := by
  have e : (stM j.val).view.set = (rect3 (j.val % 3) (lt3 j)).set := (View.set_slice _ _).trans (by rw [show (Memref.whole cc0_scratch3 : Memref sig .tc .vmem S3x1024x512 .bf16).view.emb = Function.Embedding.refl _ from rfl, Finset.map_refl])
  rw [e]
  refine (slot_set 3 (j.val % 3) _ x).trans ?_
  rw [Nat.mod_eq_of_lt j.isLt]
  exact ⟨fun h => Fin.ext h, fun h => congrArg Fin.val h⟩
theorem rcv_mem_set (j : Fin 16) (x : S16x1024x512.Idx) : x ∈ (rcvM j.val).view.set ↔ (⟨(x 0).val, (x 0).isLt⟩ : Fin 16) = j := by
  have e : (rcvM j.val).view.set = (rect16 (j.val % 16) (lt16 j)).set := (View.set_slice _ _).trans (by rw [show (Memref.whole cc0_scratch4 : Memref sig .tc .vmem S16x1024x512 .bf16).view.emb = Function.Embedding.refl _ from rfl, Finset.map_refl])
  rw [e]
  refine (slot_set 16 (j.val % 16) _ x).trans ?_
  rw [Nat.mod_eq_of_lt j.isLt]
  exact ⟨fun h => Fin.ext h, fun h => congrArg Fin.val h⟩

theorem range_fin (K : ℕ) (Φ : ℕ → sProp 𝕄) : (bigSep Finset.univ fun j : Fin K => Φ j.val) = bigSep (Finset.range K) Φ := by
  have e : Finset.range K = Finset.univ.map (⟨Fin.val, Fin.val_injective⟩ : Fin K ↪ ℕ) := by
    ext j; simp only [Finset.mem_range, Finset.mem_map, Finset.mem_univ, true_and, Function.Embedding.coeFn_mk]
    exact ⟨fun h => ⟨⟨j, h⟩, rfl⟩, fun ⟨i, h⟩ => h ▸ i.isLt⟩
  rw [e, bigSep_map]; rfl

theorem range2 (Φ : ℕ → sProp 𝕄) : bigSep (Finset.range 2) Φ = iprop(Φ 0 ∗ Φ 1) := by
  rw [Finset.range_eq_Ico, bigSep_Ico_succ_bot (by decide), bigSep_Ico_succ_bot (by decide), Finset.Ico_self, bigSep_empty]
  exact congrArg (fun X => iprop(Φ 0 ∗ X)) (BI.equiv_iff.mp sep_emp)
theorem range3 (Φ : ℕ → sProp 𝕄) : bigSep (Finset.range 3) Φ = iprop(Φ 0 ∗ Φ 1 ∗ Φ 2) := by
  rw [Finset.range_eq_Ico, bigSep_Ico_succ_bot (by decide), bigSep_Ico_succ_bot (by decide), bigSep_Ico_succ_bot (by decide), Finset.Ico_self, bigSep_empty]
  exact congrArg (fun X => iprop(Φ 0 ∗ Φ 1 ∗ X)) (BI.equiv_iff.mp sep_emp)

/-- The three buffers held are all their slots held, -/
theorem slots_of_bufs : iprop(ptAny c cc0_scratch2 ∗ ptAny c cc0_scratch3 ∗ ptAny c cc0_scratch4) ⊢ (slots c : sProp 𝕄) := by
  unfold slots
  rw [← range2 (fun j => slotAny (sndM j) c), ← range3 (fun j => slotAny (stM j) c), ← range_fin 2, ← range_fin 3, ← range_fin 16]
  exact BI.sep_mono (split_slots (ℓ := (c : Thread nD τ).loc cc0_scratch2) (fun j : Fin 2 => (sndM j.val).view.set) _ snd_mem_set)
    (BI.sep_mono (split_slots (ℓ := (c : Thread nD τ).loc cc0_scratch3) (fun j : Fin 3 => (stM j.val).view.set) _ st_mem_set)
      (split_slots (ℓ := (c : Thread nD τ).loc cc0_scratch4) (fun j : Fin 16 => (rcvM j.val).view.set) _ rcv_mem_set))
/-- and all their slots held are the three buffers held. -/
theorem bufs_of_slots : (slots c : sProp 𝕄) ⊢ iprop(ptAny c cc0_scratch2 ∗ ptAny c cc0_scratch3 ∗ ptAny c cc0_scratch4) := by
  unfold slots
  rw [← range2 (fun j => slotAny (sndM j) c), ← range3 (fun j => slotAny (stM j) c), ← range_fin 2, ← range_fin 3, ← range_fin 16]
  exact BI.sep_mono (join_slots (ℓ := (c : Thread nD τ).loc cc0_scratch2) (fun j : Fin 2 => (sndM j.val).view.set) _ snd_mem_set)
    (BI.sep_mono (join_slots (ℓ := (c : Thread nD τ).loc cc0_scratch3) (fun j : Fin 3 => (stM j.val).view.set) _ st_mem_set)
      (join_slots (ℓ := (c : Thread nD τ).loc cc0_scratch4) (fun j : Fin 16 => (rcvM j.val).view.set) _ rcv_mem_set))

end Cert.Talk

end
-- ==== Proof.Region.lean ====
/- The kernel region of the program: what each device holds before and after it, and how that is sorted into the pipeline's
   arrays, the table, the exchange's semaphores and buffers, and what the region never touches. -/
module

public import proofs.«01_k».proof.Proof.Data
public import proofs.«01_k».proof.Proof.Slots

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

theorem together {ι : Type} [DecidableEq ι] {s : Finset ι} {Φ Ψ : ι → sProp 𝕄} : iprop(bigSep s Φ ∗ bigSep s Ψ) ⊢ bigSep s fun i => iprop(Φ i ∗ Ψ i) := by
  rw [← bigSep_sep']
theorem apart {ι : Type} [DecidableEq ι] {s : Finset ι} {Φ Ψ : ι → sProp 𝕄} : (bigSep s fun i => iprop(Φ i ∗ Ψ i)) ⊢ iprop(bigSep s Φ ∗ bigSep s Ψ) := by
  rw [← bigSep_sep']

/-! ## The unscoped buffers -/

section Held

variable (c : Dev nD) (V : Valuation τ sig (Elt F))

theorem held_take (S : Finset (DevRef τ sig)) (b : Ref sig .tc) (h : Proc.devRef .tc b ∈ S) :
    (StableHlo.held (c : Thread nD τ) S V : sProp 𝕄) = iprop(pt c b (V b) ∗ StableHlo.held (c : Thread nD τ) (S.erase (Proc.devRef .tc b)) V) := by
  unfold StableHlo.held
  exact (congrArg (fun S => bigSep S fun b : DevRef τ sig => (((c : Thread nD τ).1, b) ↦{fullShare} V b : sProp 𝕄)) (Finset.insert_erase h).symm).trans
    (bigSep_insert (Finset.notMem_erase _ _))

/-- The buffers the region never names. -/
abbrev others : Finset (DevRef τ sig) :=
  ((((Pipeline.ucRefs τ sig).erase (Proc.devRef .tc main_arg1)).erase (Proc.devRef .tc main_v8)).erase (Proc.devRef .tc main_v7)).erase (Proc.devRef .tc main_v2)

theorem uc_mem (b : Ref sig .tc) (h : ¬ (Proc.devRef (τ := τ) .tc b).isScoped) : Proc.devRef .tc b ∈ Pipeline.ucRefs τ sig :=
  Finset.mem_filter.mpr ⟨StableHlo.devRef_mem_tcRefs b, h⟩

/-- The right operand, the result, the table and the left operand, and the rest. -/
theorem held_split : (StableHlo.held (c : Thread nD τ) (Pipeline.ucRefs τ sig) V : sProp 𝕄)
    = iprop(pt c main_arg1 (V main_arg1) ∗ pt c main_v8 (V main_v8) ∗ pt c main_v7 (V main_v7) ∗ pt c main_v2 (V main_v2)
      ∗ StableHlo.held (c : Thread nD τ) others V) := by
  rw [held_take c V _ main_arg1 (uc_mem _ (by decide)),
    held_take c V _ main_v8 (Finset.mem_erase.mpr ⟨by decide, uc_mem _ (by decide)⟩),
    held_take c V _ main_v7 (Finset.mem_erase.mpr ⟨by decide, Finset.mem_erase.mpr ⟨by decide, uc_mem _ (by decide)⟩⟩),
    held_take c V _ main_v2 (Finset.mem_erase.mpr ⟨by decide, Finset.mem_erase.mpr ⟨by decide, Finset.mem_erase.mpr ⟨by decide, uc_mem _ (by decide)⟩⟩⟩)]

/-- The buffers with the result's contents replaced: the same but for the result. -/
theorem held_split_result (X : (main_v8 : Ref sig .tc).ty.Contents (Elt F)) :
    (StableHlo.held (c : Thread nD τ) (Pipeline.ucRefs τ sig) (Function.update V main_v8 X) : sProp 𝕄)
    = iprop(pt c main_arg1 (V main_arg1) ∗ pt c main_v8 X ∗ pt c main_v7 (V main_v7) ∗ pt c main_v2 (V main_v2)
      ∗ StableHlo.held (c : Thread nD τ) others V) := by
  have ho : (StableHlo.held (c : Thread nD τ) others (Function.update V main_v8 X) : sProp 𝕄) = StableHlo.held (c : Thread nD τ) others V := by
    unfold StableHlo.held
    exact bigSep_congr fun b hb => by
      rw [Function.update_of_ne (by
        rintro rfl
        exact absurd (Finset.mem_of_mem_erase (Finset.mem_of_mem_erase hb)) (Finset.notMem_erase _ _))]
  rw [held_split, ho, Function.update_self, Function.update_of_ne (by decide), Function.update_of_ne (by decide), Function.update_of_ne (by decide)]

end Held

variable (V : Dev nD → Valuation τ sig (Elt F)) (htab : ∀ c : Dev nD, V c main_v7 = (fun _ => tb c : (main_v7 : Ref sig .tc).ty.Contents (Elt F)))

/-- The operands and the result array as the region finds them. -/
def ops : Operands F := ⟨fun c => V c main_v2, fun c => V c main_arg1⟩
def out0 : Dev nD → S1024x8192.Idx → Elt F .f32 := fun c => V c main_v8
/-- The result array as the region leaves it. -/
def result (c : Dev nD) : S1024x8192.Idx → Elt F .f32 := (dat0 (ops V) (out0 V) c).arrAt 1 18

section Parts

variable (c : Dev nD)

theorem arrays_eq (A : (w : Fin 2) → Buf (Elt F) (((cfg0 (adm (F := F) c 0)).win w).arr.view.loc (c : Thread nD τ))) :
    (dat0 (ops V) (out0 V) c).arrays A = (iprop(pt c main_arg1 (A 0) ∗ pt c main_v8 (A 1)) : sProp 𝕄) := by
  unfold Dat.arrays
  rw [bigSep_W0]
  show iprop(((c : Thread nD τ).loc main_arg1 ↦[(Memref.whole main_arg1 : Memref sig .tc .hbm S4096x8192 .f32).view.set]{fullShare} A 0)
    ∗ ((c : Thread nD τ).loc main_v8 ↦[(Memref.whole main_v8 : Memref sig .tc .hbm S1024x8192 .f32).view.set]{fullShare} A 1)) = _
  rw [View.set_whole, View.set_whole]

theorem arrAt_in (n : ℕ) : (dat0 (ops V) (out0 V) c).arrAt 0 n = V c main_arg1 := by
  induction n with
  | zero => rfl
  | succ n ih =>
    unfold Dat.arrAt
    split
    · exact (if_neg Bool.false_ne_true).trans ih
    · exact ih

theorem prefHeld_eq : (Pipeline.prefHeld pre0 c (fun _ => fullShare) (adm (F := F) c 0).1 : sProp 𝕄) = table c := by
  unfold Pipeline.prefHeld table
  rw [show (Finset.univ : Finset (Fin pre0.K)) = {0} from rfl, BI.bigSep_singleton]
  rfl

end Parts

/-! ## The exchange's own state around the region -/

section Ghost

variable (c : Dev nD)

/-- What device c brings: the invariants, its barrier position, the rights to open its DMA semaphores, and the duties it
    pays. -/
def ghost (K : GSem nD τ sig → ℕ) : sProp 𝕄 :=
  iprop(recs (ops V) K ∗ reached ER (barCell (pr c)) 0 ∗ atPos ER (barCell c) 0 ∅ 0 ∗ dutyTok ER (barCell (pr c)) 0 ()
    ∗ (dutyTok ER (locCell c) 0 () ∗ dutyTok ER (locCell c) 1 ()) ∗ toks c ∗ bigSep Finset.univ fun k : Fin 19 => openTok ER ((c : Thread nD τ), osem k))
/-- What it may count on receiving: the partner's signal and its sixteen copies. -/
def credits : sProp 𝕄 := iprop(cred (tallyAt (barCell c) () 1) ∗ bigSep (Finset.range 16) fun j => cred (tallyAt (rcvCell c j) () N))

/-- Its DMA semaphores opened, each in round 0. -/
theorem open_all (K : GSem nD τ sig → ℕ) :
    iprop(recs (ops V) K ∗ (bigSep Finset.univ fun k : Fin 19 => openTok ER ((c : Thread nD τ), osem k)) ∗ Pipeline.ownSems0 osem c)
      ⊢ (|={Set.univ}=> bigSep Finset.univ fun k : Fin 19 => iprop(atPos ER ((c : Thread nD τ), osem k) 0 ∅ 0 ∗ reached ER ((c : Thread nD τ), osem k) 0) : sProp 𝕄) := by
  have h1 : ∀ k : Fin 19, iprop(recs (ops V) K ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := fun k => by
    iintro ⟨#HI, Ho, Hv⟩
    iapply (Rounds.cell_open ER (sched (ops V)) (g := ((c : Thread nD τ), osem k)) (Set.mem_univ (K ((c : Thread nD τ), osem k))))
    isplitr
    · iapply (inv_at (ops V) K (Finset.mem_union_right barCells (Finset.mem_map_of_mem scEmb (Finset.mem_univ (c, k))))); iexact HI
    isplitl [Ho]; · iexact Ho
    iexact Hv
  unfold Pipeline.ownSems0
  iintro ⟨#HI, Ho, Hv⟩
  iapply (BI.bigSep_fupd _ _)
  iapply (bigSep_with_persistent (R := recs (ops V) K) (Φ := fun k : Fin 19 => iprop(openTok ER ((c : Thread nD τ), osem k) ∗ semVal ((c : Thread nD τ), osem k) 0)) fun k _ => h1 k)
  isplitr; · iexact HI
  iapply together
  isplitl [Ho]; · iexact Ho
  iexact Hv

/-- What enters the pipeline's invariant, -/
def Xr : sProp 𝕄 :=
  iprop(∃ K, recs (ops V) K ∗ reached ER (barCell (pr c)) 0 ∗ atPos ER (barCell c) 0 ∅ 0 ∗ dutyTok ER (barCell (pr c)) 0 ()
    ∗ (dutyTok ER (locCell c) 0 () ∗ dutyTok ER (locCell c) 1 ()) ∗ toks c
    ∗ (bigSep Finset.univ fun k : Fin 19 => iprop(atPos ER ((c : Thread nD τ), osem k) 0 ∅ 0 ∗ reached ER ((c : Thread nD τ), osem k) 0))
    ∗ credits c ∗ pt c main_v2 (V c main_v2) ∗ levAts L lv)
/-- what comes out of it, -/
def Yr : sProp 𝕄 := iprop(table c ∗ semVal (barCell c) 0 ∗ pt c main_v2 (V c main_v2))

theorem enter : iprop(Xr V c ∗ table c ∗ Pipeline.scopedRest spec0 c) ⊢ Φs (ops V) c 0 := by
  unfold Φs phase
  rw [if_pos rfl, scopedRest0_eq, Xr, bigSep_osem (fun s => iprop(atPos ER ((c : Thread nD τ), s) 0 ∅ 0 ∗ reached ER ((c : Thread nD τ), s) 0))]
  unfold credits
  have hu : iprop((bigSep (Finset.range 16) fun j => atPos ER (rcvCell c j) 0 ∅ 0) ∗ bigSep (Finset.range 16) fun j => cred (tallyAt (rcvCell c j) () N))
      ⊢ (unrecv c 0 : sProp 𝕄) := by
    unfold unrecv
    rw [← bigSep_sep', Finset.range_eq_Ico]
  have hs : iprop(ptAny c cc0_scratch2 ∗ ptAny c cc0_scratch3 ∗ ptAny c cc0_scratch4) ⊢ (slots c : sProp 𝕄) := slots_of_bufs c
  unfold slots at hs
  iintro ⟨⟨%K, #HR, #HrP, HatB, HtP, ⟨Ht0, Ht1⟩, Htk, ⟨⟨Ha0, #Hr0⟩, ⟨Ha1, #Hr1⟩, ⟨HaL, #HrL⟩, Hrc⟩, ⟨HcB, Hcr⟩, Hv2, #Hlev⟩, Htab, H0, H1, H2, H3, H4⟩
  ihave Hs := hs $$ [H2 H3 H4]
  · isplitl [H2]; · iexact H2
    isplitl [H3]; · iexact H3
    iexact H4
  icases Hs with ⟨⟨Hs0, Hs1⟩, ⟨Hq0, Hq1, Hq2⟩, Hrv⟩
  ihave Hrc := apart $$ Hrc
  icases Hrc with ⟨Hra, #Hrr⟩
  isplitl [Htab]; · iexact Htab
  iexists K
  unfold begun entryPre sfree
  isplitr; · iexact HR
  isplitl [HatB HcB HtP Hrv HaL Ht0 Ht1 H0 H1 Hv2]
  · isplitr; · iapply (inv_at (ops V) K (bar_mem c)); iexact HR
    isplitr; · iapply (inv_at (ops V) K (bar_mem (pr c))); iexact HR
    isplitr; · iapply (inv_at (ops V) K (loc_mem c)); iexact HR
    isplitl [HatB]; · iexact HatB
    isplitl [HcB]; · iexact HcB
    isplitr; · iexact HrP
    isplitl [HtP]; · iexact HtP
    isplitl [Hrv]; · iexact Hrv
    isplitr; · iexact Hrr
    isplitl [HaL]; · iexact HaL
    isplitr; · iexact HrL
    isplitl [Ht0]; · iexact Ht0
    isplitl [Ht1]; · iexact Ht1
    isplitl [H0]; · iexact H0
    isplitl [H1]; · iexact H1
    isplitl [Hv2]; · iexact Hv2
    iexact Hlev
  isplitl [Ha0 Hs0]
  · isplitl [Ha0]; · iexact Ha0
    isplitr; · iexact Hr0
    iexact Hs0
  isplitl [Ha1 Hs1]
  · isplitl [Ha1]; · iexact Ha1
    isplitr; · iexact Hr1
    iexact Hs1
  isplitl [Hq0]; · iexact Hq0
  isplitl [Hq1]; · iexact Hq1
  isplitl [Hq2]; · iexact Hq2
  isplitl [Htk]; · iexact Htk
  iapply hu
  isplitl [Hra]; · iexact Hra
  iexact Hcr

theorem leave : Φs (ops V) c 18 ⊢ iprop(Yr V c ∗ Pipeline.ownSems0 osem c ∗ Pipeline.scopedRest spec0 c) := by
  unfold Φs phase Yr ended halves Pipeline.ownSems0
  rw [if_neg (by decide), if_neg (by decide), scopedRest0_eq]
  iintro ⟨Htab, Hv, HB, Hs, ⟨H0, H1⟩, Ha⟩
  ihave Hs := (bufs_of_slots c) $$ Hs
  icases Hs with ⟨H2, H3, H4⟩
  isplitl [Htab HB Ha]
  · isplitl [Htab]; · iexact Htab
    isplitl [HB]; · iexact HB
    iexact Ha
  isplitl [Hv]; · iexact Hv
  isplitl [H0]; · iexists (mine (ops V) c); iexact H0
  isplitl [H1]; · iexists (theirs (ops V) c); iexact H1
  isplitl [H2]; · iexact H2
  isplitl [H3]; · iexact H3
  iexact H4

end Ghost

/-! ## The region -/

/-- Beside the buffers: before the region the exchange's state and its dues; after it the barrier's semaphore at zero. -/
def E : Fin 2 → Dev nD → sProp 𝕄 := fun
  | 0 => fun c => iprop((∃ K, ghost V c K) ∗ credits c ∗ ∃ W, owes (c : Thread nD τ) (owed c 0) W)
  | 1 => fun c => iprop(semVal (barCell c) 0 ∗ ∃ W, owes (c : Thread nD τ) (0 : CellTallies nD τ sig Unit) W)

abbrev datsV : (p : Fin 1) → (c : Dev nD) → Dat τ (Elt F) Unit ℕ UU ℕ (Pipeline.pinD (pcfgs (F := F)) adm c p) c := dats (ops V) (out0 V)

theorem waits (c : Dev nD) : (levAts L lv : sProp 𝕄) ⊢ Pipeline.PerCore.cellsWaits (Pipeline.pinD (pcfgs (F := F)) adm) (datsV V) () 0 c :=
  Pipeline.PerCore.cellsWaits_intro (Pipeline.pinD (pcfgs (F := F)) adm) (datsV V) () 0 c fun w s t => by
    have hlv : ∀ (w : Fin 2) (s : Fin (spec0 w).nbuf), lvS (.dma ((spec0 w).sem s)) = 0 := by decide
    exact MayOwe.of_cut (L := L) (lev := lv) 0 (fun q hq => by rw [Finset.mem_singleton.mp hq, L_tc]; exact Finset.mem_singleton_self _)
      (fun g u hg => (owed_pos (c := c) (n := t.val) hg).1)
      (fun q hq => by rw [Finset.mem_singleton.mp hq]; exact Nat.le_of_eq (hlv w s))
      (fun g u hg => (owed_pos (c := c) (n := t.val) hg).2)

include htab in
theorem entry (c : Dev nD) :
    iprop((StableHlo.held (c : Thread nD τ) (Pipeline.ucRefs τ sig) (V c) ∗ E V 0 c) ∗ Pipeline.ownSems0 osem c ∗ levAts L lv)
      ⊢ (|={Set.univ}=> iprop((dat0 (ops V) (out0 V) c).arrays ((dat0 (ops V) (out0 V) c).arrAt · 0) ∗ table c
        ∗ (dat0 (ops V) (out0 V) c).owesAt () 0 ∗ Xr V c ∗ StableHlo.held (c : Thread nD τ) others (V c)) : sProp 𝕄) := by
  rw [held_split, htab c, arrays_eq]
  unfold E ghost
  iintro ⟨⟨⟨H1, H8, H7, H2, Hz⟩, ⟨%K, #HR, #HrP, HatB, HtP, Ht, Htk, Ho⟩, Hc, HO⟩, Hv, #Hlev⟩
  imod (open_all V c K) $$ [Ho Hv] with Hat
  · isplitr; · iexact HR
    isplitl [Ho]; · iexact Ho
    iexact Hv
  imodintro
  isplitl [H1 H8]
  · isplitl [H1]; · iexact H1
    iexact H8
  isplitl [H7]; · unfold table; iexact H7
  isplitl [HO]; · iapply (owesAt_intro (ops V) (out0 V) c 0); iexact HO
  isplitr [Hz]
  · unfold Xr
    iexists K
    isplitr; · iexact HR
    isplitr; · iexact HrP
    isplitl [HatB]; · iexact HatB
    isplitl [HtP]; · iexact HtP
    isplitl [Ht]; · iexact Ht
    isplitl [Htk]; · iexact Htk
    isplitl [Hat]; · iexact Hat
    isplitl [Hc]; · iexact Hc
    isplitl [H2]; · iexact H2
    iexact Hlev
  iexact Hz

include htab in
theorem exit (c : Dev nD) :
    iprop((dat0 (ops V) (out0 V) c).arrays ((dat0 (ops V) (out0 V) c).arrAt · 18) ∗ (dat0 (ops V) (out0 V) c).owesAt () (Fin.last (cfg0 (adm (F := F) c 0)).N)
        ∗ Yr V c ∗ StableHlo.held (c : Thread nD τ) others (V c))
      ⊢ (|={Set.univ}=> iprop(StableHlo.held (c : Thread nD τ) (Pipeline.ucRefs τ sig) (Function.update (V c) main_v8 (result V c)) ∗ E V 1 c) : sProp 𝕄) := by
  rw [held_split_result, htab c, arrays_eq, arrAt_in]
  unfold E Yr table
  iintro ⟨⟨H1, H8⟩, HO, ⟨H7, HB, H2⟩, Hz⟩
  ihave HO := (owesAt_elim (ops V) (out0 V) c (Fin.last (cfg0 (adm (F := F) c 0)).N)) $$ HO
  icases HO with ⟨%W, HO⟩
  imodintro
  isplitl [H1 H8 H7 H2 Hz]
  · isplitl [H1]; · iexact H1
    isplitl [H8]; · iexact H8
    isplitl [H7]; · iexact H7
    isplitl [H2]; · iexact H2
    iexact Hz
  isplitl [HB]; · iexact HB
  iexists W
  ihave HO := (Entails.of_eq (congrArg (fun X => (owes (c : Thread nD τ) X W : sProp 𝕄)) (show owed c (Fin.last (cfg0 (adm (F := F) c 0)).N).val = 0 from (if_neg (show ¬ 18 = 0 by decide)).trans (owedR_last c 18 (by decide))))) $$ HO
  iexact HO

set_option backward.isDefEq.respectTransparency.types false in
/-- The region: entered with the buffers at V and the exchange's state, left with the result written. -/
def region : Pipeline.PerCore.RegionSeg (pcfgs (F := F)) adm (datsV V) () defs₀ 𝒱₀ L lv 0 where
  win := winFacts0.to₀
  block_pos := block_pos0
  stage_whole := stage_whole0
  K := Fin 19
  osem := osem
  ho := (by decide : Pipeline.OwnSemFacts spec0 osem)
  hbody := fun c => (body0 (ops V) (out0 V) c).loose
  hwaits := waits V
  pre := fun c => iprop(StableHlo.held (c : Thread nD τ) (Pipeline.ucRefs τ sig) (V c) ∗ E V 0 c)
  post := fun c => iprop(StableHlo.held (c : Thread nD τ) (Pipeline.ucRefs τ sig) (Function.update (V c) main_v8 (result V c)) ∗ E V 1 c)
  X := Xr V
  Y := Yr V
  Z := fun c => StableHlo.held (c : Thread nD τ) others (V c)
  hentry := fun c => (entry V htab c).trans (by rw [← prefHeld_eq]; exact BI.Entails.refl _)
  hin := fun c => by
    refine BI.Entails.trans ?_ (enter V c)
    rw [← prefHeld_eq]; exact BI.Entails.refl _
  hout := leave V
  hexit := exit V htab

end Cert.Talk

end
-- ==== Proof.Deal.lean ====
/- What the launch deals out: the tokens of every payment, handed to the device that pays, and the credit of what each device
   is owed. -/
module

public import proofs.«01_k».proof.Proof.Region

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The tokens -/

/-- The payments on one device's semaphores: one on each receive semaphore, eight on each send semaphore, two on the local
    copies' semaphore, one on the barrier; each with its round. -/
def paidS (k : Fin 35) : SemLoc sig :=
  if k.val < 16 then .dma (rcvS k.val) else if k.val < 32 then .dma (sndS (k.val - 16)) else if k.val < 34 then .dma locS else .reg barrier0
def paidR (k : Fin 35) : ℕ := if k.val < 16 then 0 else if k.val < 32 then (k.val - 16) / 2 else if k.val = 33 then 1 else 0
theorem paid_inj : Function.Injective fun k : Fin 35 => (paidS k, paidR k) := by decide

def payments : Finset (GSem nD τ sig × ℕ × Unit) :=
  Finset.univ.map ⟨fun ck : Dev nD × Fin 35 => (((ck.1 : Thread nD τ), paidS ck.2), paidR ck.2, ()), fun _ _ h =>
    Prod.ext (congrArg (fun t : GSem nD τ sig × ℕ × Unit => t.1.1.1) h)
      (paid_inj (Prod.ext (congrArg (fun t : GSem nD τ sig × ℕ × Unit => t.1.2) h) (congrArg (fun t : GSem nD τ sig × ℕ × Unit => t.2.1) h)))⟩

/-- A device's payments, kind by kind. -/
theorem bigSep_paid (Φ : SemLoc sig → ℕ → sProp 𝕄) :
    (bigSep Finset.univ fun k : Fin 35 => Φ (paidS k) (paidR k))
      = iprop(Φ (.dma locS) 0 ∗ Φ (.dma locS) 1 ∗ Φ (.reg barrier0) 0 ∗ (bigSep (Finset.range 16) fun j => Φ (.dma (rcvS j)) 0)
        ∗ bigSep (Finset.range 16) fun j => Φ (.dma (sndS j)) (j / 2)) := by
  let a : ℕ → Fin 35 := fun j => ⟨j % 16, by have := lt16 j; omega⟩
  let b : ℕ → Fin 35 := fun j => ⟨16 + j % 16, by have := lt16 j; omega⟩
  have hu : (Finset.univ : Finset (Fin 35)) = insert 32 (insert 33 (insert 34 ((Finset.range 16).image a ∪ (Finset.range 16).image b))) := by decide
  have hd : Disjoint ((Finset.range 16).image a) ((Finset.range 16).image b) := by decide
  have ha : Set.InjOn a (Finset.range 16) := fun x hx y hy h => by
    have hx' := Finset.mem_range.mp hx
    have hy' := Finset.mem_range.mp hy
    have h' : x % 16 = y % 16 := congrArg Fin.val h
    omega
  have hb : Set.InjOn b (Finset.range 16) := fun x hx y hy h => by
    have hx' := Finset.mem_range.mp hx
    have hy' := Finset.mem_range.mp hy
    have h' : 16 + x % 16 = 16 + y % 16 := congrArg Fin.val h
    omega
  have ea : ∀ j ∈ Finset.range 16, Φ (paidS (a j)) (paidR (a j)) = Φ (.dma (rcvS j)) 0 := fun j hj => by
    have h := Finset.mem_range.mp hj
    have hv : (a j).val = j := Nat.mod_eq_of_lt h
    unfold paidS paidR
    rw [if_pos (by omega), if_pos (by omega), hv]
  have eb' : ∀ (k : Fin 35) (j : ℕ), j < 16 → k.val = 16 + j → Φ (paidS k) (paidR k) = Φ (.dma (sndS j)) (j / 2) := fun k j hj hk => by
    have h1 : ¬ k.val < 16 := by omega
    have h2 : k.val < 32 := by omega
    rw [show paidS k = .dma (sndS (k.val - 16)) from (if_neg h1).trans (if_pos h2), show paidR k = (k.val - 16) / 2 from (if_neg h1).trans (if_pos h2),
      show k.val - 16 = j by omega]
  have eb : ∀ j ∈ Finset.range 16, Φ (paidS (b j)) (paidR (b j)) = Φ (.dma (sndS j)) (j / 2) := fun j hj =>
    eb' _ j (Finset.mem_range.mp hj) (congrArg (16 + ·) (Nat.mod_eq_of_lt (Finset.mem_range.mp hj)))
  rw [hu, bigSep_insert (by decide), bigSep_insert (by decide), bigSep_insert (by decide), BI.bigSep_union hd, bigSep_image_of_injOn ha,
    bigSep_image_of_injOn hb, bigSep_congr ea, bigSep_congr eb]
  rfl

/-- All the tokens, each with the device that pays it: the barrier's and the receive semaphores' with the partner. -/
theorem payments_dealt :
    bigSep payments (fun x => (dutyTok ER x.1 x.2.1 x.2.2 : sProp 𝕄))
      ⊢ bigSep Finset.univ fun c : Dev nD => iprop((dutyTok ER (locCell c) 0 () ∗ dutyTok ER (locCell c) 1 ()) ∗ dutyTok ER (barCell (pr c)) 0 () ∗ toks c) := by
  have h1 : bigSep payments (fun x => (dutyTok ER x.1 x.2.1 x.2.2 : sProp 𝕄))
      = bigSep Finset.univ fun c : Dev nD => iprop(dutyTok ER (locCell c) 0 () ∗ dutyTok ER (locCell c) 1 () ∗ dutyTok ER (barCell c) 0 ()
        ∗ (bigSep (Finset.range 16) fun j => dutyTok ER (rcvCell c j) 0 ()) ∗ bigSep (Finset.range 16) fun j => dutyTok ER (sndCell c j) (j / 2) ()) := by
    unfold payments; rw [bigSep_map, bigSep_univ_prod]
    exact bigSep_congr fun c _ => bigSep_paid fun s r => dutyTok ER ((c : Thread nD τ), s) r ()
  have h2 : ∀ c : Dev nD, (iprop(dutyTok ER (locCell c) 0 () ∗ dutyTok ER (locCell c) 1 () ∗ dutyTok ER (barCell (pr c)) 0 ()
        ∗ (bigSep (Finset.range 16) fun j => dutyTok ER (rcvCell (pr c) j) 0 ()) ∗ bigSep (Finset.range 16) fun j => dutyTok ER (sndCell c j) (j / 2) ()) : sProp 𝕄)
      ⊢ iprop((dutyTok ER (locCell c) 0 () ∗ dutyTok ER (locCell c) 1 ()) ∗ dutyTok ER (barCell (pr c)) 0 () ∗ toks c) := fun c => by
    unfold toks
    iintro ⟨H0, H1, HB, HR, HS⟩
    isplitl [H0 H1]
    · isplitl [H0]; · iexact H0
      iexact H1
    isplitl [HB]; · iexact HB
    iapply together
    isplitl [HR]; · iexact HR
    iexact HS
  rw [h1]
  refine BI.Entails.trans ?_ (bigSep_mono fun c _ => h2 c)
  rw [bigSep_sep', bigSep_sep', bigSep_sep', bigSep_sep', bigSep_sep', bigSep_sep', bigSep_sep', bigSep_sep',
    bigSep_univ_equiv partners (fun c : Dev nD => (dutyTok ER (barCell c) 0 () : sProp 𝕄)),
    bigSep_univ_equiv partners (fun c : Dev nD => (bigSep (Finset.range 16) fun j => dutyTok ER (rcvCell c j) 0 () : sProp 𝕄))]
  exact BI.Entails.refl _

/-! ## The credit -/

theorem pr_dev {c d : Dev nD} {s t : SemLoc sig} (h : (((c : Thread nD τ), s) : GSem nD τ sig) = ((pr d : Thread nD τ), t)) : d = pr c := by
  rw [← pr_pr d]; exact congrArg pr (Fin.ext (congrArg (fun g : GSem nD τ sig => g.1.1.val) h).symm)

/-- A device owes its partner's barrier one signal, -/
theorem owed_bar (d c : Dev nD) : owed d 0 (barCell c) () = if d = pr c then 1 else 0 := by
  have hR : owedR d 0 (barCell c) () = 0 := by
    by_contra h
    obtain ⟨j, -, -, hg⟩ := owedR_pos (Nat.pos_of_ne_zero h)
    exact absurd (congrArg Prod.snd hg) (by simp)
  unfold owed
  rw [if_pos rfl, Pi.add_apply, Finsupp.add_apply, hR, Nat.zero_add, tallyAt_apply]
  by_cases h : d = pr c
  · subst h; rw [pr_pr, if_pos ⟨rfl, rfl⟩, if_pos rfl]
  · rw [if_neg (fun h1 => h (pr_dev h1.1)), if_neg h]

/-- and each of its partner's receive semaphores one copy. -/
theorem owed_rcv (d c : Dev nD) (j : ℕ) (hj : j < 16) : owed d 0 (rcvCell c j) () = if d = pr c then N else 0 := by
  have hne : ∀ i ∈ Finset.Ico 0 16, i ≠ j → tallyAt (rcvCell (pr d) i) () N (rcvCell c j) () = 0 := fun i hi hij => by
    rw [tallyAt_apply, if_neg]
    rintro ⟨h, -⟩
    have h' : 6 + j % 16 = 6 + i % 16 := congrArg (fun s : SemLoc sig => match s with | .dma s => s.val | _ => 0) (congrArg Prod.snd h)
    have := (Finset.mem_Ico.mp hi).2
    omega
  unfold owed
  rw [if_pos rfl, Pi.add_apply, Finsupp.add_apply, tallyAt_apply (g := barCell (pr d)), if_neg (fun h1 => absurd (congrArg Prod.snd h1.1) (by simp)), Nat.add_zero]
  unfold owedR
  rw [Finset.sum_apply, Finsupp.finset_sum_apply, Finset.sum_eq_single j hne (fun h => absurd (Finset.mem_Ico.mpr ⟨Nat.zero_le _, hj⟩) h), tallyAt_apply]
  by_cases h : d = pr c
  · subst h; rw [pr_pr, if_pos ⟨rfl, rfl⟩, if_pos rfl]
  · rw [if_neg (fun h1 => h (pr_dev h1.1)), if_neg h]

/-- So what a cell is owed at the launch is what its device's partner owes it. -/
theorem launch_of (c : Dev nD) (s : SemLoc sig) (n : ℕ) (h : ∀ d, owed d 0 ((c : Thread nD τ), s) () = if d = pr c then n else 0) :
    tallyOn ((c : Thread nD τ), s) (launchCredit (Pipeline.owing fun d => owed d 0) 0 ((c : Thread nD τ), s))
      = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (pr c) fun _ => n,
    if_pos (Finset.mem_univ _)]

theorem creds (c : Dev nD) : (Pipeline.launchCred (fun d => owed d 0) c : sProp 𝕄) ⊢ credits c := by
  let e : ℕ → SemLoc sig := fun j => .dma (rcvS j)
  have hi : Set.InjOn e (Finset.range 16) := fun a ha b hb h => by
    have ha' := Finset.mem_range.mp ha
    have hb' := Finset.mem_range.mp hb
    have h' : 6 + a % 16 = 6 + b % 16 := congrArg (fun s : SemLoc sig => match s with | .dma s => s.val | _ => 0) h
    omega
  have hn : (SemLoc.reg barrier0 : SemLoc sig) ∉ (Finset.range 16).image e := fun h => by
    obtain ⟨j, -, hj⟩ := Finset.mem_image.mp h
    simp [e] at hj
  let Ψ : SemLoc sig → sProp 𝕄 := fun s =>
    cred (tallyOn ((c : Thread nD τ), s) (launchCredit (Pipeline.owing fun d => owed d 0) 0 ((c : Thread nD τ), s)))
  have hb : Ψ (.reg barrier0) = cred (tallyAt (barCell c) () 1) := congrArg cred (launch_of c _ 1 fun d => owed_bar d c)
  have hr : ∀ j ∈ Finset.range 16, Ψ (e j) = cred (tallyAt (rcvCell c j) () N) := fun j hj =>
    congrArg cred (launch_of c _ N fun d => owed_rcv d c j (Finset.mem_range.mp hj))
  have hs : bigSep Finset.univ Ψ ⊢ bigSep (insert (SemLoc.reg barrier0) ((Finset.range 16).image e)) Ψ := BI.bigSep_subset (Finset.subset_univ _)
  rw [bigSep_insert hn, bigSep_image_of_injOn hi, hb, bigSep_congr hr] at hs
  exact hs

end Cert.Talk

end
-- ==== Proof.Run.lean ====
/- The run: from any memory the program terminates on the sixteen devices, each device's result array holding what its kernel
   region computes, its arguments as launched, and every semaphore at zero. -/
module

public import proofs.«01_k».proof.Proof.Deal

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The table the region finds -/

/-- The table the program computes: each device's first mesh coordinate. -/
theorem table_eq (c : Dev nD) : V1 m c main_v7 = (fun _ => tb c : (main_v7 : Ref sig .tc).ty.Contents (Elt F)) := by
  show StableHlo.after (hostOps0 c) (V0 m c) (Proc.devRef .tc main_v7) = _
  after_results
  have h : ∀ c : Dev nD, (c.word / 8#32) % 2#32 = tb c := by decide
  exact funext fun i => h c

/-- What the region leaves: the result array at what it computes, every other buffer as it was. -/
def left : Outs (F := F) := fun _ r c => Function.update (V1 m c) main_v8 (result (V1 m) c) r

theorem V2_left (c : Dev nD) : V2 m (left m) c = Function.update (V1 m c) main_v8 (result (V1 m) c) := by
  have h8 : left m 2 main_v8 c = result (V1 m) c := Function.update_self ..
  have h2 : left m 2 main_v2 c = V1 m c main_v2 := Function.update_of_ne (by decide) ..
  have h2' : Function.update (V1 m c) main_v8 (result (V1 m) c) main_v2 = V1 m c main_v2 := Function.update_of_ne (by decide) ..
  show Function.update (Function.update (V1 m c) main_v8 (left m 2 main_v8 c)) main_v2 (left m 2 main_v2 c) = _
  rw [h8, h2, ← h2', Function.update_eq_self]

/-! ## The launch -/

theorem cells_inj : Function.Injective (Pipeline.PerCore.cellOf (nD := nD) (τ := τ) (Pipeline.pinD (pcfgs (F := F)) adm)) :=
  Pipeline.PerCore.cellOf_injective _ (fun _ p => by fin_cases p; exact (by decide : Pipeline.SpecSemsDistinct spec0))
    (fun _ p p' h => absurd (Subsingleton.elim p p') h)

/-- The launch element: the pipeline's rounds beside the exchange's. -/
def u₀ : UU :=
  (initOf (Pipeline.PerCore.cells (Pipeline.pinD (pcfgs (F := F)) adm) cells_inj) (Pipeline.PerCore.launchToks (Pipeline.pinD (pcfgs (F := F)) adm) cells_inj),
    launchOf barCells scCells payments)

/-- The exchange's rounds whole, kept by device 0 until the launch deals them out. -/
def G (c : Dev nD) : sProp 𝕄 := if c = 0 then BI.own (ER (launchOf barCells scCells payments)) else iprop(emp)
theorem G_eq : bigSep Finset.univ (G (F := F)) = BI.own (ER (launchOf barCells scCells payments)) := by
  have h0 : ∀ c ∈ Finset.univ.erase (0 : Dev nD), G (F := F) c = (BI.emp : sProp 𝕄) := fun c hc => if_neg (Finset.ne_of_mem_erase hc)
  rw [bigSep_univ_at _ (0 : Dev nD), bigSep_congr h0, BI.bigSep_emp_const, show G (F := F) 0 = BI.own (ER (launchOf barCells scCells payments)) from if_pos rfl]
  exact BI.equiv_iff.mp sep_emp

theorem disjoint_cells : Disjoint barCells scCells := by
  rw [Finset.disjoint_left]
  rintro g h₁ h₂
  obtain ⟨c, -, rfl⟩ := Finset.mem_map.mp h₁
  obtain ⟨ck, -, h⟩ := Finset.mem_map.mp h₂
  exact absurd (congrArg Prod.snd h) (by simp [scEmb, barEmb, osem])

/-- What every device may consult: the invariants, and that every barrier is in round 0. -/
def known (K : GSem nD τ sig → ℕ) : sProp 𝕄 := iprop(recs (ops (V1 m)) K ∗ bigSep barCells fun g => reached ER g 0)
instance known_persistent (K : GSem nD τ sig → ℕ) : BI.Persistent (known m K) := by unfold known; infer_instance

/-- What the launch gives device c alone: its barrier position, the rights to open its DMA semaphores, the duties it pays; -/
def own₀ (c : Dev nD) : sProp 𝕄 :=
  iprop(atPos ER (barCell c) 0 ∅ 0 ∗ (bigSep Finset.univ fun k : Fin 19 => openTok ER ((c : Thread nD τ), osem k))
    ∗ ((dutyTok ER (locCell c) 0 () ∗ dutyTok ER (locCell c) 1 ()) ∗ dutyTok ER (barCell (pr c)) 0 () ∗ toks c))
/-- and its buffers, what it is owed and what it owes. -/
def rest₀ (c : Dev nD) : sProp 𝕄 :=
  iprop(StableHlo.held (c : Thread nD τ) (Pipeline.ucRefs τ sig) (V0 m c) ∗ credits c ∗ owes (c : Thread nD τ) (owed c 0) ∅)

/-- Each device before its first operation. -/
def first (c : Dev nD) : sProp 𝕄 := iprop(StableHlo.held (c : Thread nD τ) (Pipeline.ucRefs τ sig) (V0 m c) ∗ E (V1 m) 0 c)
/-- And after its last: the barrier's semaphore at zero. -/
def final (c : Dev nD) : sProp 𝕄 := iprop(StableHlo.held (c : Thread nD τ) (Pipeline.ucRefs τ sig) (V3 m (left m) c) ∗ semVal (barCell c) 0)

theorem first_intro (K : GSem nD τ sig → ℕ) (c : Dev nD) : iprop(known m K ∗ (own₀ c ∗ rest₀ m c)) ⊢ first m c := by
  have hr : (bigSep barCells fun g => (reached ER g 0 : sProp 𝕄)) ⊢ reached ER (barCell (pr c)) 0 :=
    bigSep_elim (Finset.mem_map_of_mem barEmb (Finset.mem_univ (pr c)))
  unfold known own₀ rest₀ first E ghost
  iintro ⟨⟨#HI, #HR⟩, ⟨Ha, Ho, Hl, HtB, Htk⟩, Hh, Hc, HO⟩
  isplitl [Hh]; · iexact Hh
  isplitl [Ha Ho Hl HtB Htk]
  · iexists K
    isplitr; · iexact HI
    isplitr; · iapply hr; iexact HR
    isplitl [Ha]; · iexact Ha
    isplitl [HtB]; · iexact HtB
    isplitl [Hl]; · iexact Hl
    isplitl [Htk]; · iexact Htk
    iexact Ho
  isplitl [Hc]; · iexact Hc
  iexists ∅; iexact HO

theorem unscoped_eq : ∀ sm : SemLoc sig, sm.isScoped .tc = false → sm = .reg barrier0 := by decide

theorem init :
    iprop((bigSep Finset.univ fun c : Dev nD => iprop(unscopedBufs c (fun b => m ((c : Thread nD τ).loc b)) ∗ unscopedSems0 c
          ∗ owes (c : Thread nD τ) (owed c 0) ∅ ∗ Pipeline.launchCred (fun d => owed d 0) c ∗ prngReg c (ρ c) ∗ G c)) ∗ levAts L lv)
      ⊢ (|={Set.univ}=> bigSep Finset.univ (first m) : sProp 𝕄) := by
  have hcore : ∀ c : Dev nD, iprop(unscopedBufs c (fun b => m ((c : Thread nD τ).loc b)) ∗ unscopedSems0 c
        ∗ owes (c : Thread nD τ) (owed c 0) ∅ ∗ Pipeline.launchCred (fun d => owed d 0) c ∗ prngReg c (ρ c) ∗ G c)
      ⊢ (iprop(rest₀ m c ∗ (semVal (barCell c) 0 ∗ G c)) : sProp 𝕄) := fun c => by
    unfold unscopedSems0
    rw [show unscopedBufs c (fun b => m ((c : Thread nD τ).loc b)) = StableHlo.held (c : Thread nD τ) (Pipeline.ucRefs τ sig) (V0 m c) from
        Pipeline.unscopedBufs_held (Ix := Unit) (Name := ℕ) (U := UU) (Lvl := ℕ) c (V0 m c),
      show (Finset.univ.filter fun sm : SemLoc sig => ¬ sm.isScoped .tc) = {SemLoc.reg barrier0} from by decide, BI.bigSep_singleton]
    unfold rest₀
    iintro ⟨Hh, Hus, HO, Hcr, -, HG⟩
    isplitl [Hh HO Hcr]
    · isplitl [Hh]; · iexact Hh
      isplitl [Hcr]; · iapply (creds c); iexact Hcr
      iexact HO
    isplitl [Hus]; · iexact Hus
    iexact HG
  have hall : (bigSep Finset.univ fun c : Dev nD => iprop(unscopedBufs c (fun b => m ((c : Thread nD τ).loc b)) ∗ unscopedSems0 c
        ∗ owes (c : Thread nD τ) (owed c 0) ∅ ∗ Pipeline.launchCred (fun d => owed d 0) c ∗ prngReg c (ρ c) ∗ G c))
      ⊢ (bigSep Finset.univ fun c : Dev nD => iprop(rest₀ m c ∗ (semVal (barCell c) 0 ∗ G c)) : sProp 𝕄) := bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Fin 19 => openTok ER ((c : Thread nD τ), osem k)) :=
    Entails.of_eq (by rw [bigSep_map, bigSep_univ_prod]; rfl)
  iintro ⟨H, -⟩
  ihave H := hall $$ H
  ihave H := apart $$ H
  icases H with ⟨HB, H⟩
  ihave H := apart $$ H
  icases H with ⟨Hv, HG⟩
  ihave Hu := (Entails.of_eq (G_eq (F := F))) $$ HG
  imod (Rounds.fund_launch ER (sched (ops (V1 m))) disjoint_cells (fun g _ h => h) payments) $$ [Hv Hu] with ⟨%K, -, #Hinv, #Hr, Hat, Hopen, Htok⟩
  · isplitl [Hv]
    · iapply hv $$ Hv
    · iexact Hu
  imodintro
  iapply (bigSep_with_persistent (R := known m K) (Φ := fun c => iprop(own₀ c ∗ rest₀ m c)) fun c _ => first_intro m K c)
  isplitr
  · unfold known recs
    isplitr; · iexact Hinv
    iexact Hr
  iapply together
  isplitr [HB]
  · unfold own₀
    iapply together; isplitl [Hat]; · iapply hat $$ Hat
    iapply together; isplitl [Hopen]; · iapply hopen $$ Hopen
    iapply (payments_dealt (F := F)) $$ Htok
  · iexact HB

/-! ## The run -/

abbrev segs (c : Dev nD) : List (Pipeline.PerCore.Seg (pcfgs (F := F)) adm (datsV (V1 m)) () defs₀ 𝒱₀ L lv) :=
  [.host (seg0 m 𝒱₀ L lv (E (V1 m)) c), .region (region (V1 m) (table_eq m)), .host (seg2 m (left m) 𝒱₀ L lv (E (V1 m)))]

/-- The result array after the run: the region's, with the leading axis the program gives it. -/
theorem V3_result (c : Dev nD) :
    V3 m (left m) c main_v9 = (fun i => shapeCast S1x1024x8192 (result (V1 m) c) shapeCasts_S1024x8192_S1x1024x8192 i : (main_v9 : Ref sig .tc).ty.Contents (Elt F)) := by
  show StableHlo.after hostOps1 (V2 m (left m) c) (Proc.devRef .tc main_v9) = _
  rw [V2_left]
  after_results
  rw [Function.update_self]
  rfl

set_option backward.isDefEq.respectTransparency.types false in
/-- From any memory with every semaphore at zero, every weakly fair execution terminates with both arguments as launched, the
    result array holding what the region computes, and every semaphore at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v9) = V3 m (left m) c main_v9)
    ∧ r.2.sem = fun _ => 0) :=
  Pipeline.PerCore.θ_run_regions_kit_sems (pcfgs (F := F)) adm (datsV (V1 m)) () cells_inj EP defs₀ 𝒱₀ L lv m ρ main (segs m)
    (fun c Q => by
      rewrite [main_chain c, Pipeline.PerCore.Seg.run_eq_chain,
        show (segs m c).map Pipeline.PerCore.Seg.prog = [StableHlo.seq (hostOps0 c), Prog.lift (.customCall (Pipeline.entry 0) ()), StableHlo.seq hostOps1] from rfl]
      dsimp (config := { failIfUnchanged := false }) only
      exact .rfl)
    (fun c => by simp only [segs, Pipeline.PerCore.Seg.pipes_host, Pipeline.PerCore.Seg.pipes_region, Pipeline.PerCore.Seg.pipes_nil]; decide)
    (fun d => owed d 0) L_of_ne G u₀
    (by
      unfold u₀
      iintro Hu
      ihave H := (ownU_pair _ _) $$ Hu
      icases H with ⟨HP, HX⟩
      imodintro
      isplitl [HP]; · iexact HP
      iapply (Entails.of_eq (G_eq (F := F)).symm); iexact HX)
    (first m) (final m)
    (fun c => ⟨.rfl, .rfl, by
        show iprop(StableHlo.held (c : Thread nD τ) (Pipeline.ucRefs τ sig) (Function.update (V1 m c) main_v8 (result (V1 m) c)) ∗ E (V1 m) 1 c)
          ⊢ iprop(StableHlo.held (c : Thread nD τ) (Pipeline.ucRefs τ sig) (V2 m (left m) c) ∗ E (V1 m) 1 c)
        rw [V2_left],
      by
        show iprop(StableHlo.held (c : Thread nD τ) (Pipeline.ucRefs τ sig) (V3 m (left m) c) ∗ semVal (barCell c) 0
            ∗ ∃ W, owes (c : Thread nD τ) (0 : CellTallies nD τ sig Unit) W)
          ⊢ iprop(final m c ∗ ∃ W, owes (c : Thread nD τ) (0 : CellTallies nD τ sig Unit) W)
        unfold final
        iintro ⟨Hh, Hb, HO⟩
        isplitr [HO]
        · isplitl [Hh]; · iexact Hh
          iexact Hb
        · iexact HO⟩)
    (init m ρ)
    (fun c s => (∀ b ∈ Pipeline.ucRefs τ sig, s.mem ((c : Thread nD τ).1, b) = V3 m (left m) c b) ∧ s.sem (barCell c) = 0)
    (fun c s' => by
      unfold final StableHlo.held
      iintro ⟨⟨Hh, Hb⟩, HSI⟩
      ihave Hr := (pointsTo_read_all (Pipeline.ucRefs τ sig) (fun b => ((c : Thread nD τ).1, b)) (V3 m (left m) c) s') $$ [Hh HSI]
      · isplitl [Hh] <;> iassumption
      icases Hr with ⟨%h, HSI⟩
      icombine HSI Hb gives %hb
      imodintro
      isplitr
      · ipureintro
        exact ⟨h, by simpa using hb⟩
      iexact HSI)
    (fun s h hs => ⟨fun c => ⟨((h c).1 _ (uc_mem main_arg0 (by decide))).trans (V3_main_arg0 m (left m) c),
        ((h c).1 _ (uc_mem main_arg1 (by decide))).trans (V3_main_arg1 m (left m) c), (h c).1 _ (uc_mem main_v9 (by decide))⟩,
      sem_eq_zero hs fun c sm hsm => by
        obtain rfl := unscoped_eq sm hsm
        exact (h c).2⟩)

end Cert.Talk

end
-- ==== Proof.Result.lean ====
/- What the region leaves in the result array: its sixteen column blocks, each as the body computes it. -/
module

public import proofs.«01_k».proof.Proof.Region

@[expose] public section

noncomputable section

namespace Cert.Talk

open Idealize.ShloMosaic Idealize.ShloMosaic.TcCoe
open Idealize.ShloMosaic.Pipeline (Dat)
open Cert.KernelIdeal Cert.KernelIdeal.Gen

variable {F : FTy → Type} [FloatOps F]
variable (D : Operands F) (O : Dev nD → S1024x8192.Idx → Elt F .f32)

/-- The index of element (row, column mod 512) of a column block. -/
def inBlk (i : S1024x8192.Idx) : S1024x512.Idx := fun a => match a with
  | 0 => ⟨(i 0).val, (i 0).isLt⟩
  | 1 => ⟨(i 1).val % 512, Nat.mod_lt _ (by decide)⟩

/-- Where element x of the block point t ≥ 2 writes back is in the result array: 512·(t − 2) columns further. -/
theorem out_emb (c : Dev nD) (t : Fin grid0.N) (x : S1024x512.Idx) (a : Fin 2) :
    ((((cfg0 (adm (F := F) c 0)).win 1).blk t).view.emb x : S1024x8192.Idx) a
      = ⟨![(x 0).val, 512 * min (t.val - 2) 15 + (x 1).val] a, by
          match a with
          | 0 => exact (x 0).isLt
          | 1 => have h : (x 1).val < 512 := (x 1).isLt
                 show 512 * min (t.val - 2) 15 + (x 1).val < 8192; omega⟩ := by
  have h := congrFun (index1 t)
  refine Fin.ext ?_
  match a with
  | 0 =>
    show cc0_transform_2 (grid0.coords t) 0 * 1024 + 1 * (x 0).val = (x 0).val
    rw [h 0]; show 0 * 1024 + 1 * (x 0).val = _; omega
  | 1 =>
    show cc0_transform_2 (grid0.coords t) 1 * 512 + 1 * (x 1).val = 512 * min (t.val - 2) 15 + (x 1).val
    rw [h 1]; show min (t.val - 2) 15 * 512 + 1 * (x 1).val = _; omega

/-- After the points below n, the columns below 512·(n − 2) of the result array are final. -/
theorem arrAt_apply (c : Dev nD) (n : ℕ) (hn : n ≤ 18) (i : S1024x8192.Idx) (hi : (i 1).val < 512 * (n - 2)) :
    ((dat0 D O c).arrAt 1 n : S1024x8192.Idx → Elt F .f32) i = outv D c ((i 1).val / 512) (inBlk i) := by
  induction n with
  | zero => omega
  | succ n ih =>
    have hN : n < (cfg0 (adm (F := F) c 0)).N := by show n < 18; omega
    have hf : ((cfg0 (adm (F := F) c 0)).win 1).flush ⟨n, hN⟩ = true := (flush1 c ⟨n, hN⟩).trans (decide_eq_true (by show 2 ≤ n; omega))
    have e : (dat0 D O c).arrAt 1 (n + 1) = (((cfg0 (adm (F := F) c 0)).win 1).blk ⟨n, hN⟩).view.write (Elt F) ((dat0 D O c).arrAt 1 n)
        ((dat0 D O c).flushed 1 ⟨n, hN⟩) Finset.univ := (dif_pos hN).trans (if_pos hf)
    refine (congrFun e i).trans ?_
    by_cases h : (i 1).val < 512 * (n - 2)
    · refine (View.write_of_not_mem _ _ _ (fun hm => ?_)).trans (ih (by omega) h)
      obtain ⟨(x : S1024x512.Idx), -, hx⟩ := Finset.mem_map.1 hm
      have h1 := congrArg Fin.val ((out_emb (F := F) c ⟨n, hN⟩ x 1).symm.trans (congrFun (show (_ : S1024x8192.Idx) = i from hx) (1 : Fin 2)))
      have h2 : 512 * min (n - 2) 15 + (x 1).val = (i 1).val := h1
      omega
    · have hx : (((cfg0 (adm (F := F) c 0)).win 1).blk ⟨n, hN⟩).view.emb (inBlk i) = i := by
        refine funext fun (a : Fin 2) => (out_emb (F := F) c ⟨n, hN⟩ (inBlk i) a).trans (Fin.ext ?_)
        match a with
        | 0 => rfl
        | 1 => show 512 * min (n - 2) 15 + (i 1).val % 512 = (i 1).val; omega
      have hq : (i 1).val / 512 = n - 2 := by omega
      rw [hq]
      refine (congrArg _ hx.symm).trans ((View.write_emb_of_mem _ _ (Finset.mem_univ (inBlk i))).trans ?_)
      rfl

/-- Element (r, j) of device c's result: element (r, j mod 512) of output block j div 512. -/
theorem result_apply (V : Dev nD → Valuation τ sig (Elt F)) (c : Dev nD) (i : S1024x8192.Idx) :
    (result V c : S1024x8192.Idx → Elt F .f32) i = outv (ops V) c ((i 1).val / 512) (inBlk i) :=
  arrAt_apply (ops V) (out0 V) c 18 le_rfl i (by have h : (i 1).val < 8192 := (i 1).isLt; omega)

end Cert.Talk

end
-- ==== Proof.Block.lean ====
/- One output block over the extended reals: the product of the device's own operands plus the product of its partner's,
   for the same rows and columns. -/
module

public import proofs.«01_k».proof.Proof.Cells
public import Idealize.ShloMosaic.Lib.MatmulPlain
public import Idealize.ShloMosaic.Lib.ValueLayout

@[expose] public section

noncomputable section

namespace Cert.Talk

open Idealize.ShloMosaic Idealize.ShloMosaic.TcCoe Idealize.ShloMosaic.ValueIdx
open Cert.KernelIdeal Cert.KernelIdeal.Gen

/-- Over the extended reals the right operand's block enters the products unrounded. -/
theorem rounded_eq (w : S4096x512.Idx → EReal) : k0_pay35 (F := Ideal) w = w :=
  shapeCast_self w shapeCasts_S4096x512_S4096x512

/-- Element (r, j) of the product the device stashes. -/
theorem stash_prod (w : S4096x512.Idx → EReal) (a : S1024x4096.Idx → EReal) (r : Fin 1024) (j : Fin 512) :
    k0_pay37 (F := Ideal) w a (ix2 r j) = ∑ k : Fin 4096, a (ix2 r k) * w (ix2 k j) := by
  refine (Ideal.matmul_plain_apply (φ₁ := .bf16) (φ₂ := .bf16) none a (k0_pay35 (F := Ideal) w) (constant (F := Ideal) S1024x512 .f32 0x00000000#32) r j).trans ?_
  rw [rounded_eq]
  show Ideal.ofBits .f32 0x00000000#32 + _ = _
  rw [Ideal.ofBits_zero_f32, zero_add]

/-- The product the device sends is the same function of its operands. -/
theorem send_eq (w : S4096x512.Idx → EReal) (a : S1024x4096.Idx → EReal) : k0_pay36 (F := Ideal) w a = k0_pay37 (F := Ideal) w a := rfl

/-- Over the extended reals what the slots hold reads back as the product put in. -/
theorem stash_back (X : S1024x512.Idx → EReal) : shapeCast S1024x512 (k0_pay8 (F := Ideal) X) shapeCasts_S1x1024x512_S1024x512 = X :=
  shapeCast_shapeCast X shapeCasts_S1024x512_S1x1024x512 shapeCasts_S1x1024x512_S1024x512
theorem send_back (X : S1024x512.Idx → EReal) : shapeCast S1024x512 (k0_pay7 (F := Ideal) X) shapeCasts_S1x1024x512_S1024x512 = X :=
  shapeCast_shapeCast X shapeCasts_S1024x512_S1x1024x512 shapeCasts_S1x1024x512_S1024x512

/-- An output block from two slots: the sum of the products read back. -/
theorem sum_back (X Y : S1024x512.Idx → EReal) : k0_pay42 (F := Ideal) (k0_pay8 (F := Ideal) X) (k0_pay7 (F := Ideal) Y) = fun i => X i + Y i := by
  exact funext fun i => congrArg₂ (· + ·) (congrFun (stash_back X) i) (congrFun (send_back Y) i)

variable (D : Operands Ideal)

/-- Element (r, j) of output block n: the sum over the device's own part of the contraction plus the sum over its partner's. -/
theorem outv_apply (c : Dev nD) (n : ℕ) (r : Fin 1024) (j : Fin 512) :
    outv D c n (ix2 r j) = (∑ k : Fin 4096, mine D c (ix2 r k) * wblk D c n (ix2 k j))
      + ∑ k : Fin 4096, theirs D (pr c) (ix2 r k) * wblk D (pr c) n (ix2 k j) := by
  refine (congrFun (sum_back (k0_pay37 (F := Ideal) (wblk D c n) (mine D c)) (k0_pay36 (F := Ideal) (wblk D (pr c) n) (theirs D (pr c)))) (ix2 r j)).trans ?_
  rw [send_eq]
  exact congrArg₂ (· + ·) (stash_prod _ _ r j) (stash_prod _ _ r j)

theorem off1_eq (c : Dev nD) : k0_off1 (tb c) = ![1024 * (c.val / 8), 0] := by
  revert c; unfold k0_off1 tb; decide
theorem off2_eq (c : Dev nD) : k0_off2 (tb (pr c)) = ![1024 * (c.val / 8), 0] := by
  revert c; unfold k0_off2 tb pr; decide

/-- Row r of the rows devices with c's first mesh coordinate produce. -/
def rowOf (c : Dev nD) (r : Fin 1024) : Fin 2048 := ⟨1024 * (c.val / 8) + r.val, by have h : c.val < 16 := c.isLt; omega⟩

/-- The rows the device keeps are the rows of its result. -/
theorem mine_apply (c : Dev nD) (r : Fin 1024) (k : Fin 4096) : mine D c (ix2 r k) = D.a c (ix2 (rowOf c r) k) := by
  show D.a c ((opM1 c).view.emb (ix2 r k)) = _
  have h := congrFun (off1_eq c)
  refine congrArg (D.a c) (show (_ : S2048x4096.Idx) = _ from funext fun (a : Fin 2) => Fin.ext ?_)
  match a with
  | 0 => show k0_off1 (tb c) 0 + 1 * r.val = 1024 * (c.val / 8) + r.val; rw [h 0]; show 1024 * (c.val / 8) + 1 * r.val = _; omega
  | 1 => show k0_off1 (tb c) 1 + 1 * k.val = k.val; rw [h 1]; show 0 + 1 * k.val = _; omega

/-- The rows the partner multiplies for the device are the rows of the device's result too. -/
theorem theirs_apply (c : Dev nD) (r : Fin 1024) (k : Fin 4096) : theirs D (pr c) (ix2 r k) = D.a (pr c) (ix2 (rowOf c r) k) := by
  show D.a (pr c) ((opM2 (pr c)).view.emb (ix2 r k)) = _
  have h := congrFun (off2_eq c)
  refine congrArg (D.a (pr c)) (show (_ : S2048x4096.Idx) = _ from funext fun (a : Fin 2) => Fin.ext ?_)
  match a with
  | 0 => show k0_off2 (tb (pr c)) 0 + 1 * r.val = 1024 * (c.val / 8) + r.val; rw [h 0]; show 1024 * (c.val / 8) + 1 * r.val = _; omega
  | 1 => show k0_off2 (tb (pr c)) 1 + 1 * k.val = k.val; rw [h 1]; show 0 + 1 * k.val = _; omega

/-- Column q of the result is column q mod 512 of block q div 512 of the right operand. -/
theorem wblk_apply (c : Dev nD) (k : Fin 4096) (q : Fin 8192) :
    wblk D c (q.val / 512) (ix2 k ⟨q.val % 512, Nat.mod_lt _ (by decide)⟩) = D.w c (ix2 k q) := by
  refine congrArg (D.w c) (funext fun (a : Fin 2) => Fin.ext ?_)
  match a with
  | 0 => rfl
  | 1 => show 512 * min (q.val / 512) 15 + q.val % 512 = q.val; have h := q.isLt; omega

/-- Element (r, q) of the device's result, from the operands of the device and of its partner. -/
theorem outv_sum (c : Dev nD) (r : Fin 1024) (q : Fin 8192) :
    outv D c (q.val / 512) (ix2 r ⟨q.val % 512, Nat.mod_lt _ (by decide)⟩)
      = (∑ k : Fin 4096, D.a c (ix2 (rowOf c r) k) * D.w c (ix2 k q))
        + ∑ k : Fin 4096, D.a (pr c) (ix2 (rowOf c r) k) * D.w (pr c) (ix2 k q) := by
  rw [outv_apply]
  simp only [mine_apply, theirs_apply, wblk_apply]

end Cert.Talk

end
-- ==== Proof.Whole.lean ====
/- The reference over the extended reals, element by element: the sum over the whole contraction, which is the sum over the
   part a device holds plus the sum over its partner's part. -/
module

public import proofs.«01_k».proof.Proof.Cells
public import proofs.«01_k».proof.Proof.Gen.ReferenceIdeal
public import Idealize.ShloMosaic.Lib.ValueLayout
public import Idealize.ShloMosaic.PureOps.Ideal.Laws

@[expose] public section

noncomputable section

namespace Cert.Talk

open Idealize.ShloMosaic Idealize.ShloMosaic.TcCoe Idealize.ShloMosaic.ValueIdx
open Cert.ReferenceIdeal Cert.ReferenceIdeal.Gen

/-- The reference's result as a function of its two arguments. -/
def whole (A : S1x2048x64x128.Idx → EReal) (W : S8192x8192.Idx → EReal) : S1x2048x8192.Idx → EReal :=
  Host.dotGeneral (F := Ideal) (φ₁ := .f32) (φ₂ := .f32) dot_S1x2048x8192_S8192x8192_S1x2048x8192_2_0_01_1_n_n none
    (shapeCast S1x2048x8192 A shapeCasts_S1x2048x64x128_S1x2048x8192) W

/-- Row r of the flattened left argument: position k is head k div 128, component k mod 128. -/
def flat (A : S1x2048x64x128.Idx → EReal) (r : Fin 2048) (k : Fin 8192) : EReal :=
  A (ix4 (0 : Fin 1) r ⟨k.val / 128, by omega⟩ ⟨k.val % 128, Nat.mod_lt _ (by decide)⟩)

theorem reshape_flat (A : S1x2048x64x128.Idx → EReal) (r : Fin 2048) (k : Fin 8192) :
    shapeCast S1x2048x8192 A shapeCasts_S1x2048x64x128_S1x2048x8192 (ix3 (0 : Fin 1) r k) = flat A r k :=
  shapeCast_apply A _ _ _ (by
    rw [Shape.rowMajor_val_four, Shape.rowMajor_val_three]
    show ((0 * 2048 + r.val) * 64 + k.val / 128) * 128 + k.val % 128 = (0 * 2048 + r.val) * 8192 + k.val
    omega)

/-- Element (0, r, q) of the reference's result. -/
theorem whole_apply (A : S1x2048x64x128.Idx → EReal) (W : S8192x8192.Idx → EReal) (r : Fin 2048) (q : Fin 8192) :
    whole A W (ix3 (0 : Fin 1) r q) = ∑ k : Fin 8192, flat A r k * W (ix2 k q) := by
  show FloatOps.dotGeneral _ _ _ _ _ _ = _
  rw [Ideal.dotGeneral_apply, ← Equiv.sum_comp (contrEquiv1 dot_S1x2048x8192_S8192x8192_S1x2048x8192_2_0_01_1_n_n 8192 rfl rfl).symm]
  refine Finset.sum_congr rfl fun k _ => ?_
  have hk := contrEquiv1_symm_val dot_S1x2048x8192_S8192x8192_S1x2048x8192_2_0_01_1_n_n 8192 rfl rfl k
  have el : dot_S1x2048x8192_S8192x8192_S1x2048x8192_2_0_01_1_n_n.lhsIdx (ix3 (0 : Fin 1) r q)
      ((contrEquiv1 dot_S1x2048x8192_S8192x8192_S1x2048x8192_2_0_01_1_n_n 8192 rfl rfl).symm k) = ix3 (0 : Fin 1) r k := by
    funext a; apply Fin.ext
    match a with
    | ⟨0, _⟩ => rfl
    | ⟨1, _⟩ => rfl
    | ⟨2, _⟩ => exact hk
  have er : dot_S1x2048x8192_S8192x8192_S1x2048x8192_2_0_01_1_n_n.rhsIdx (ix3 (0 : Fin 1) r q)
      ((contrEquiv1 dot_S1x2048x8192_S8192x8192_S1x2048x8192_2_0_01_1_n_n 8192 rfl rfl).symm k) = ix2 k q := by
    funext a; apply Fin.ext
    match a with
    | ⟨0, _⟩ => exact hk
    | ⟨1, _⟩ => rfl
  rw [el, er, reshape_flat]

/-- Position k of the part of the contraction that device c holds. -/
def partOf (c : Dev Cert.KernelIdeal.nD) (k : Fin 4096) : Fin 8192 := ⟨4096 * (c.val / 8) + k.val, by have h : c.val < 16 := c.isLt; omega⟩

/-- A sum over the contraction is the sum over a device's part plus the sum over its partner's. -/
theorem sum_parts (f : Fin 8192 → EReal) (c : Dev Cert.KernelIdeal.nD) :
    (∑ k : Fin 4096, f (partOf c k)) + ∑ k : Fin 4096, f (partOf (pr c) k) = ∑ k : Fin 8192, f k := by
  have hs : ∑ k : Fin 8192, f k = (∑ k : Fin 4096, f (Fin.castAdd 4096 k)) + ∑ k : Fin 4096, f (Fin.natAdd 4096 k) := Fin.sum_univ_add (a := 4096) (b := 4096) f
  have hc : c.val < 16 := c.isLt
  have hp : (pr c).val = (c.val + 8) % 16 := rfl
  have lo (d : Dev Cert.KernelIdeal.nD) (h : d.val / 8 = 0) : (∑ k : Fin 4096, f (partOf d k)) = ∑ k : Fin 4096, f (Fin.castAdd 4096 k) :=
    Finset.sum_congr rfl fun k _ => congrArg f (Fin.ext (by show 4096 * (d.val / 8) + k.val = k.val; omega))
  have hi (d : Dev Cert.KernelIdeal.nD) (h : d.val / 8 = 1) : (∑ k : Fin 4096, f (partOf d k)) = ∑ k : Fin 4096, f (Fin.natAdd 4096 k) :=
    Finset.sum_congr rfl fun k _ => congrArg f (Fin.ext (by show 4096 * (d.val / 8) + k.val = 4096 + k.val; omega))
  rw [hs]
  by_cases h : c.val < 8
  · rw [lo c (by omega), hi (pr c) (by omega)]
  · rw [hi c (by omega), lo (pr c) (by omega), add_comm]

end Cert.Talk

end
-- ==== Proof.Equation.lean ====
/- The equation: over the extended reals, when every device holds its block of the two whole arguments, its result array
   ends holding its block of the reference's result. -/
module

public import proofs.«01_k».proof.Proof.Run
public import proofs.«01_k».proof.Proof.Result
public import proofs.«01_k».proof.Proof.Block
public import proofs.«01_k».proof.Proof.Whole
public import Idealize.ShloMosaic.Lib.Layout

@[expose] public section

noncomputable section

namespace Cert.Talk

open Idealize.ShloMosaic Idealize.ShloMosaic.TcCoe Idealize.ShloMosaic.ValueIdx
open Cert.KernelIdeal Cert.KernelIdeal.Gen

/-- The block a device holds along a dimension cut by the first mesh axis: its first mesh coordinate. -/
theorem mesh_first : ∀ c : Dev nD, Layout.meshLin [2, 2, 4] c.val [0] = c.val / 8 := by decide

variable (m : (ℓ : Loc nD τ sig) → Buf (Elt Ideal) ℓ)
variable (A : (⟨4, ![1, 2048, 64, 128]⟩ : Shape).Idx → EReal) (W : (⟨2, ![8192, 8192]⟩ : Shape).Idx → EReal)

/-- Every device holds its heads of the left argument and its rows of the right one. -/
def Holds : Prop := ∀ c : Dev nD,
  (m ((c : Thread nD τ).loc main_arg0) : S1x2048x32x128.Idx → EReal)
      = Layout.blockN ⟨4, ![1, 2048, 32, 128]⟩ ⟨4, ![1, 2048, 64, 128]⟩ (Layout.meshBlock [2, 2, 4] ![[], [], [0], []] c) A
    ∧ (m ((c : Thread nD τ).loc main_arg1) : S4096x8192.Idx → EReal)
      = Layout.blockN ⟨2, ![4096, 8192]⟩ ⟨2, ![8192, 8192]⟩ (Layout.meshBlock [2, 2, 4] ![[0], []] c) W

/-- The left operand the region finds: the left argument flattened to a matrix, not rounded over the extended reals. -/
theorem left_operand (c : Dev nD) :
    (V1 m c main_v2 : S2048x4096.Idx → EReal) = shapeCast S2048x4096 (m ((c : Thread nD τ).loc main_arg0)) shapeCasts_S1x2048x32x128_S2048x4096 := by
  show StableHlo.after (hostOps0 c) (V0 m c) (Proc.devRef .tc main_v2) = _
  after_results
  rfl

variable {m A W} (H : Holds m A W)
include H

/-- Row r of the left operand device c multiplies: its part of row r of the flattened whole. -/
theorem left_flat (c : Dev nD) (r : Fin 2048) (k : Fin 4096) :
    (V1 m c main_v2 : S2048x4096.Idx → EReal) (ix2 r k) = flat A r (partOf c k) := by
  rw [left_operand]
  refine (shapeCast_apply _ _ _ (ix4 (0 : Fin 1) r ⟨k.val / 128, by omega⟩ ⟨k.val % 128, Nat.mod_lt _ (by decide)⟩ : S1x2048x32x128.Idx) ?_).trans ?_
  · rw [Shape.rowMajor_val_four, Shape.rowMajor_val_two]
    show ((0 * 2048 + r.val) * 32 + k.val / 128) * 128 + k.val % 128 = r.val * 4096 + k.val
    omega
  · refine (congrFun (H c).1 _).trans (congrArg A (funext fun (a : Fin 4) => Fin.ext ?_))
    have hm := mesh_first c
    match a with
    | 0 => rfl
    | 1 => show 0 * 2048 + r.val = r.val; omega
    | 2 => show Layout.meshLin [2, 2, 4] c.val [0] * 32 + k.val / 128 = (4096 * (c.val / 8) + k.val) / 128; omega
    | 3 => show 0 * 128 + k.val % 128 = (4096 * (c.val / 8) + k.val) % 128; omega

/-- Row k of the right operand device c multiplies by: row k of its part of the whole. -/
theorem right_part (c : Dev nD) (k : Fin 4096) (q : Fin 8192) :
    (V1 m c main_arg1 : S4096x8192.Idx → EReal) (ix2 k q) = W (ix2 (partOf c k) q) := by
  rw [V1_of m c main_arg1 (by decide)]
  refine (congrFun (H c).2 (ix2 k q)).trans (congrArg W (funext fun (a : Fin 2) => Fin.ext ?_))
  have hm := mesh_first c
  match a with
  | 0 => show Layout.meshLin [2, 2, 4] c.val [0] * 4096 + k.val = 4096 * (c.val / 8) + k.val; omega
  | 1 => show 0 * 8192 + q.val = q.val; omega

/-- Element (r, q) of the array the region leaves on device c: the reference's element in row r of the device's rows. -/
theorem result_whole (c : Dev nD) (r : Fin 1024) (q : Fin 8192) :
    result (V1 m) c (ix2 r q) = whole A W (ix3 (0 : Fin 1) (rowOf c r) q) := by
  have hi : inBlk (ix2 r q) = ix2 r ⟨q.val % 512, Nat.mod_lt _ (by decide)⟩ := funext fun (a : Fin 2) => match a with | 0 => rfl | 1 => rfl
  refine (result_apply (V1 m) c (ix2 r q)).trans ?_
  rw [hi]
  refine (outv_sum (ops (V1 m)) c r q).trans ?_
  rw [whole_apply, ← sum_parts (fun k => flat A (rowOf c r) k * W (ix2 k q)) c]
  refine congrArg₂ (· + ·) (Finset.sum_congr rfl fun k _ => ?_) (Finset.sum_congr rfl fun k _ => ?_)
  · exact congrArg₂ (· * ·) (left_flat H c (rowOf c r) k) (right_part H c k q)
  · exact congrArg₂ (· * ·) (left_flat H (pr c) (rowOf c r) k) (right_part H (pr c) k q)

/-- Device c's result array after the run is its block of rows of the reference's result. -/
theorem value (c : Dev nD) : (V3 m (left m) c main_v9 : S1x1024x8192.Idx → EReal)
    = Layout.blockN ⟨3, ![1, 1024, 8192]⟩ ⟨3, ![1, 2048, 8192]⟩ (Layout.meshBlock [2, 2, 4] ![[], [0], []] c) (whole A W) := by
  rw [V3_result]
  funext i
  rw [eq_ix3 i]
  refine (shapeCast_ab_1ab_apply (result (V1 m) c) shapeCasts_S1024x8192_S1x1024x8192 (i 0) (i 1) (i 2)).trans ((result_whole H c (i 1) (i 2)).trans ?_)
  refine congrArg (whole A W) (funext fun (a : Fin 3) => Fin.ext ?_)
  have hm := mesh_first c
  match a with
  | 0 => show 0 = 0 * 1 + (i 0).val; have h : (i 0).val < 1 := (i 0).isLt; omega
  | 1 => show 1024 * (c.val / 8) + (i 1).val = Layout.meshLin [2, 2, 4] c.val [0] * 1024 + (i 1).val; omega
  | 2 => show (i 2).val = 0 * 8192 + (i 2).val; omega

end Cert.Talk

end
-- ==== Proof.lean ====
/- The proof of the claims: the frames of the kernel, of the kernel read over the extended reals and of the reference, that
   the second is the first's own text, and that over the extended reals the kernel's result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation

@[expose] public section

noncomputable section

namespace Cert.Proof

open Idealize.ShloMosaic Idealize.ShloMosaic.TcCoe Idealize.SL.Sem

/-- The kernel's two readings are one text: the same body under the one label, -/
theorem defs₀_eq {F : FTy → Type} [FloatOps F] : Cert.Kernel.defs₀ (F := F) = Cert.KernelIdeal.defs₀ (F := F) :=
  congrArg Defs.onTc (funext fun ℓ => match ℓ with
    | 0 => funext fun x => match x with | (_, _) => rfl)
/-- so the same table of bodies. -/
theorem defs_eq {F : FTy → Type} [FloatOps F] : Cert.Kernel.defs (F := F) = Cert.KernelIdeal.defs (F := F) :=
  congrArg (Pipeline.defs Cert.KernelIdeal.pcfgs) defs₀_eq

/-- The kernel terminates from every memory, its arguments unchanged and its semaphores at zero: the run over the device's
    floats. -/
theorem frame_kernel : Cert.quiescent_Kernel := fun m ρ _ => by
  rw [defs_eq]
  exact (θ_run Cert.KernelIdeal.defs _ _).mono (fun _ h => ⟨fun c => ⟨(h.1 c).1, (h.1 c).2.1⟩, h.2⟩) (Cert.Talk.run_main (F := Bits) m ρ)

/-- The same of the kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.Talk.run_main (F := Ideal) m ρ)

/-- The reference terminates from every memory, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From devices holding their blocks of the reference's arguments, each device's result ends as its block of rows of the
    reference's result. -/
theorem result_equal : Cert.algebraic_KernelIdeal_ReferenceIdeal := fun m ρ m' ρ' _ H =>
  ⟨Cert.Talk.whole (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono (fun _ h c => ⟨(h.1 c).2.2.trans (Cert.Talk.value H c), (h.1 c).1, (h.1 c).2.1⟩)
      (Cert.Talk.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, result_equal⟩

end Cert.Proof

end
